-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x50x75 : Shape := ⟨4, ![1, 512, 50, 75]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S512x50x75 : Shape := ⟨3, ![512, 50, 75]⟩
abbrev S50x75x512 : Shape := ⟨3, ![50, 75, 512]⟩
abbrev S3x3x512x512 : Shape := ⟨4, ![3, 3, 512, 512]⟩
abbrev S9x512x512 : Shape := ⟨3, ![9, 512, 512]⟩
abbrev S1x512 : Shape := ⟨2, ![1, 512]⟩
abbrev S144x128 : Shape := ⟨2, ![144, 128]⟩
abbrev S72x128 : Shape := ⟨2, ![72, 128]⟩
abbrev S1x36 : Shape := ⟨2, ![1, 36]⟩
abbrev S1x18 : Shape := ⟨2, ![1, 18]⟩
abbrev S36x3750 : Shape := ⟨2, ![36, 3750]⟩
abbrev S18x3750 : Shape := ⟨2, ![18, 3750]⟩
abbrev S4336x512 : Shape := ⟨2, ![4336, 512]⟩
abbrev S3750x512 : Shape := ⟨2, ![3750, 512]⟩
abbrev S1x75x512 : Shape := ⟨3, ![1, 75, 512]⟩
abbrev S75x512 : Shape := ⟨2, ![75, 512]⟩
abbrev S76x512 : Shape := ⟨2, ![76, 512]⟩
abbrev S4335x512 : Shape := ⟨2, ![4335, 512]⟩
abbrev S1x512x512 : Shape := ⟨3, ![1, 512, 512]⟩
abbrev S512x512 : Shape := ⟨2, ![512, 512]⟩
abbrev S512x4608 : Shape := ⟨2, ![512, 4608]⟩
abbrev S1040x512 : Shape := ⟨2, ![1040, 512]⟩
abbrev S1040x4608 : Shape := ⟨2, ![1040, 4608]⟩
abbrev S36x512 : Shape := ⟨2, ![36, 512]⟩
abbrev S18x512 : Shape := ⟨2, ![18, 512]⟩
abbrev S54x512 : Shape := ⟨2, ![54, 512]⟩
abbrev S54x3750 : Shape := ⟨2, ![54, 3750]⟩
abbrev S1x54 : Shape := ⟨2, ![1, 54]⟩
abbrev S54x1 : Shape := ⟨2, ![54, 1]⟩
abbrev S9x4x3750 : Shape := ⟨3, ![9, 4, 3750]⟩
abbrev S3750x9x4 : Shape := ⟨3, ![3750, 9, 4]⟩
abbrev S1x33750x4 : Shape := ⟨3, ![1, 33750, 4]⟩
abbrev S9x2x3750 : Shape := ⟨3, ![9, 2, 3750]⟩
abbrev S3750x9x2 : Shape := ⟨3, ![3750, 9, 2]⟩
abbrev S1x33750x2 : Shape := ⟨3, ![1, 33750, 2]⟩

abbrev nBuf : Space → Nat
  | .hbm => 25
  | .vmem => 13
  | .smem => 0
  | _ => 0

abbrev bufTy : (tb : Table) → Fin (tcTables nBuf tb) → BufTy
  | .hbm, ⟨0, _⟩ => ⟨S1x512x50x75, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S512x50x75, .f32⟩
  | .hbm, ⟨8, _⟩ => ⟨S50x75x512, .f32⟩
  | .hbm, ⟨9, _⟩ => ⟨S50x75x512, .bf16⟩
  | .hbm, ⟨10, _⟩ => ⟨S3x3x512x512, .f32⟩
  | .hbm, ⟨11, _⟩ => ⟨S9x512x512, .f32⟩
  | .hbm, ⟨12, _⟩ => ⟨S1x512, .f32⟩
  | .hbm, ⟨13, _⟩ => ⟨S144x128, .f32⟩
  | .hbm, ⟨14, _⟩ => ⟨S72x128, .f32⟩
  | .hbm, ⟨15, _⟩ => ⟨S1x36, .f32⟩
  | .hbm, ⟨16, _⟩ => ⟨S1x18, .f32⟩
  | .hbm, ⟨17, _⟩ => ⟨S36x3750, .f32⟩
  | .hbm, ⟨18, _⟩ => ⟨S18x3750, .f32⟩
  | .hbm, ⟨19, _⟩ => ⟨S9x4x3750, .f32⟩
  | .hbm, ⟨20, _⟩ => ⟨S3750x9x4, .f32⟩
  | .hbm, ⟨21, _⟩ => ⟨S1x33750x4, .f32⟩
  | .hbm, ⟨22, _⟩ => ⟨S9x2x3750, .f32⟩
  | .hbm, ⟨23, _⟩ => ⟨S3750x9x2, .f32⟩
  | .hbm, ⟨24, _⟩ => ⟨S1x33750x2, .f32⟩
  | .local _ .vmem, ⟨0, _⟩ => ⟨S50x75x512, .bf16⟩
  | .local _ .vmem, ⟨1, _⟩ => ⟨S9x512x512, .f32⟩
  | .local _ .vmem, ⟨2, _⟩ => ⟨S1x512, .f32⟩
  | .local _ .vmem, ⟨3, _⟩ => ⟨S144x128, .f32⟩
  | .local _ .vmem, ⟨4, _⟩ => ⟨S72x128, .f32⟩
  | .local _ .vmem, ⟨5, _⟩ => ⟨S1x36, .f32⟩
  | .local _ .vmem, ⟨6, _⟩ => ⟨S1x18, .f32⟩
  | .local _ .vmem, ⟨7, _⟩ => ⟨S36x3750, .f32⟩
  | .local _ .vmem, ⟨8, _⟩ => ⟨S18x3750, .f32⟩
  | .local _ .vmem, ⟨9, _⟩ => ⟨S4336x512, .bf16⟩
  | .local _ .vmem, ⟨10, _⟩ => ⟨S4336x512, .bf16⟩
  | .local _ .vmem, ⟨11, _⟩ => ⟨S4336x512, .bf16⟩
  | .local _ .vmem, ⟨12, _⟩ => ⟨S3750x512, .bf16⟩
  | _, _ => ⟨S1x512x50x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S50x75x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S36x3750 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18x3750 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x512x50x75 : Shape := ⟨4, ![1, 512, 50, 75]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S512x50x75 : Shape := ⟨3, ![512, 50, 75]⟩
abbrev S_ : Shape := ⟨0, ![]⟩
abbrev S512x52x77 : Shape := ⟨3, ![512, 52, 77]⟩
abbrev S512x512x1x1 : Shape := ⟨4, ![512, 512, 1, 1]⟩
abbrev S512x512 : Shape := ⟨2, ![512, 512]⟩
abbrev S512x1x1 : Shape := ⟨3, ![512, 1, 1]⟩
abbrev S36x512 : Shape := ⟨2, ![36, 512]⟩
abbrev S36x50x75 : Shape := ⟨3, ![36, 50, 75]⟩
abbrev S36x1x1 : Shape := ⟨3, ![36, 1, 1]⟩
abbrev S18x512 : Shape := ⟨2, ![18, 512]⟩
abbrev S18x50x75 : Shape := ⟨3, ![18, 50, 75]⟩
abbrev S18x1x1 : Shape := ⟨3, ![18, 1, 1]⟩
abbrev S50x75x36 : Shape := ⟨3, ![50, 75, 36]⟩
abbrev S1x33750x4 : Shape := ⟨3, ![1, 33750, 4]⟩
abbrev S50x75x18 : Shape := ⟨3, ![50, 75, 18]⟩
abbrev S1x33750x2 : Shape := ⟨3, ![1, 33750, 2]⟩

abbrev nBuf : Space → Nat
  | .hbm => 78
  | .vmem => 0
  | .smem => 0
  | _ => 0

abbrev bufTy : (tb : Table) → Fin (tcTables nBuf tb) → BufTy
  | .hbm, ⟨0, _⟩ => ⟨S1x512x50x75, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S512x50x75, .f32⟩
  | .hbm, ⟨8, _⟩ => ⟨S_, .i32⟩
  | .hbm, ⟨9, _⟩ => ⟨S_, .f32⟩
  | .hbm, ⟨10, _⟩ => ⟨S512x52x77, .f32⟩
  | .hbm, ⟨11, _⟩ => ⟨S_, .f32⟩
  | .hbm, ⟨12, _⟩ => ⟨S512x50x75, .f32⟩
  | .hbm, ⟨13, _⟩ => ⟨S512x512x1x1, .f32⟩
  | .hbm, ⟨14, _⟩ => ⟨S512x512, .f32⟩
  | .hbm, ⟨15, _⟩ => ⟨S512x50x75, .f32⟩
  | .hbm, ⟨16, _⟩ => ⟨S512x50x75, .f32⟩
  | .hbm, ⟨17, _⟩ => ⟨S512x50x75, .f32⟩
  | .hbm, ⟨18, _⟩ => ⟨S512x512x1x1, .f32⟩
  | .hbm, ⟨19, _⟩ => ⟨S512x512, .f32⟩
  | .hbm, ⟨20, _⟩ => ⟨S512x50x75, .f32⟩
  | .hbm, ⟨21, _⟩ => ⟨S512x50x75, .f32⟩
  | .hbm, ⟨22, _⟩ => ⟨S512x50x75, .f32⟩
  | .hbm, ⟨23, _⟩ => ⟨S512x512x1x1, .f32⟩
  | .hbm, ⟨24, _⟩ => ⟨S512x512, .f32⟩
  | .hbm, ⟨25, _⟩ => ⟨S512x50x75, .f32⟩
  | .hbm, ⟨26, _⟩ => ⟨S512x50x75, .f32⟩
  | .hbm, ⟨27, _⟩ => ⟨S512x50x75, .f32⟩
  | .hbm, ⟨28, _⟩ => ⟨S512x512x1x1, .f32⟩
  | .hbm, ⟨29, _⟩ => ⟨S512x512, .f32⟩
  | .hbm, ⟨30, _⟩ => ⟨S512x50x75, .f32⟩
  | .hbm, ⟨31, _⟩ => ⟨S512x50x75, .f32⟩
  | .hbm, ⟨32, _⟩ => ⟨S512x50x75, .f32⟩
  | .hbm, ⟨33, _⟩ => ⟨S512x512x1x1, .f32⟩
  | .hbm, ⟨34, _⟩ => ⟨S512x512, .f32⟩
  | .hbm, ⟨35, _⟩ => ⟨S512x50x75, .f32⟩
  | .hbm, ⟨36, _⟩ => ⟨S512x50x75, .f32⟩
  | .hbm, ⟨37, _⟩ => ⟨S512x50x75, .f32⟩
  | .hbm, ⟨38, _⟩ => ⟨S512x512x1x1, .f32⟩
  | .hbm, ⟨39, _⟩ => ⟨S512x512, .f32⟩
  | .hbm, ⟨40, _⟩ => ⟨S512x50x75, .f32⟩
  | .hbm, ⟨41, _⟩ => ⟨S512x50x75, .f32⟩
  | .hbm, ⟨42, _⟩ => ⟨S512x50x75, .f32⟩
  | .hbm, ⟨43, _⟩ => ⟨S512x512x1x1, .f32⟩
  | .hbm, ⟨44, _⟩ => ⟨S512x512, .f32⟩
  | .hbm, ⟨45, _⟩ => ⟨S512x50x75, .f32⟩
  | .hbm, ⟨46, _⟩ => ⟨S512x50x75, .f32⟩
  | .hbm, ⟨47, _⟩ => ⟨S512x50x75, .f32⟩
  | .hbm, ⟨48, _⟩ => ⟨S512x512x1x1, .f32⟩
  | .hbm, ⟨49, _⟩ => ⟨S512x512, .f32⟩
  | .hbm, ⟨50, _⟩ => ⟨S512x50x75, .f32⟩
  | .hbm, ⟨51, _⟩ => ⟨S512x50x75, .f32⟩
  | .hbm, ⟨52, _⟩ => ⟨S512x50x75, .f32⟩
  | .hbm, ⟨53, _⟩ => ⟨S512x512x1x1, .f32⟩
  | .hbm, ⟨54, _⟩ => ⟨S512x512, .f32⟩
  | .hbm, ⟨55, _⟩ => ⟨S512x50x75, .f32⟩
  | .hbm, ⟨56, _⟩ => ⟨S512x50x75, .f32⟩
  | .hbm, ⟨57, _⟩ => ⟨S512x50x75, .f32⟩
  | .hbm, ⟨58, _⟩ => ⟨S512x1x1, .f32⟩
  | .hbm, ⟨59, _⟩ => ⟨S512x50x75, .f32⟩
  | .hbm, ⟨60, _⟩ => ⟨S512x50x75, .f32⟩
  | .hbm, ⟨61, _⟩ => ⟨S_, .f32⟩
  | .hbm, ⟨62, _⟩ => ⟨S512x50x75, .f32⟩
  | .hbm, ⟨63, _⟩ => ⟨S512x50x75, .f32⟩
  | .hbm, ⟨64, _⟩ => ⟨S36x512, .f32⟩
  | .hbm, ⟨65, _⟩ => ⟨S36x50x75, .f32⟩
  | .hbm, ⟨66, _⟩ => ⟨S36x1x1, .f32⟩
  | .hbm, ⟨67, _⟩ => ⟨S36x50x75, .f32⟩
  | .hbm, ⟨68, _⟩ => ⟨S36x50x75, .f32⟩
  | .hbm, ⟨69, _⟩ => ⟨S18x512, .f32⟩
  | .hbm, ⟨70, _⟩ => ⟨S18x50x75, .f32⟩
  | .hbm, ⟨71, _⟩ => ⟨S18x1x1, .f32⟩
  | .hbm, ⟨72, _⟩ => ⟨S18x50x75, .f32⟩
  | .hbm, ⟨73, _⟩ => ⟨S18x50x75, .f32⟩
  | .hbm, ⟨74, _⟩ => ⟨S50x75x36, .f32⟩
  | .hbm, ⟨75, _⟩ => ⟨S1x33750x4, .f32⟩
  | .hbm, ⟨76, _⟩ => ⟨S50x75x18, .f32⟩
  | .hbm, ⟨77, _⟩ => ⟨S1x33750x2, .f32⟩
  | _, _ => ⟨S1x512x50x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_call1_cst : Ref sig .tc := ⟨.hbm, 61, rfl⟩
abbrev main_call1_v0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== Proof.Put.lean ====
/-
  A window put over an array, in the few forms the kernel body needs: rows put over words and the words put back are the
  rows put alone, and what an array reads, entry by entry, after rows of it have been replaced.
-/
module

public import Idealize.ShloMosaic.Lib.VecWindow
public import Idealize.ShloMosaic.Lib.Pointwise

@[expose] public section

set_option maxRecDepth 16384

noncomputable section

namespace RowBuf

open Idealize.ShloMosaic VecWindow

variable {α : Type}

/-- Rows put into an array, read at an entry. -/
theorem put_rows {N K C : ℕ} (x : (⟨2, ![N, C]⟩ : Shape).Idx → α) (r : ℕ) (v : (⟨2, ![K, C]⟩ : Shape).Idx → α) (i : Fin N) (k : Fin C) :
    put (s := ⟨2, ![N, C]⟩) x ![r, 0] ![K, C] v (ix2 i k) = if h : r ≤ i.val ∧ i.val < r + K then v (ix2 ⟨i.val - r, by omega⟩ k) else x (ix2 i k) := by
  by_cases h : r ≤ i.val ∧ i.val < r + K
  · have hA : ∀ a : Fin 2, (![r, 0] : Fin 2 → ℕ) a ≤ ((ix2 i k : (⟨2, ![N, C]⟩ : Shape).Idx) a).val
        ∧ ((ix2 i k : (⟨2, ![N, C]⟩ : Shape).Idx) a).val < (![r, 0] : Fin 2 → ℕ) a + (![K, C] : Fin 2 → ℕ) a := fun a => by
      match a with
      | ⟨0, _⟩ => exact h
      | ⟨1, _⟩ => exact ⟨Nat.zero_le _, by show k.val < 0 + C; omega⟩
    rw [dif_pos h]
    refine (dif_pos hA).trans (congrArg v ?_)
    funext a
    match a with
    | ⟨0, _⟩ => exact Fin.ext rfl
    | ⟨1, _⟩ => exact Fin.ext rfl
  · rw [dif_neg h]
    exact dif_neg fun hA => h (hA 0)

/-- A window of rows, read at an entry. -/
theorem window_rows {N K C : ℕ} (x : (⟨2, ![N, C]⟩ : Shape).Idx → α) (r : ℕ)
    (inb : ∀ a : Fin 2, (![r, 0] : Fin 2 → ℕ) a + (![K, C] : Fin 2 → ℕ) a ≤ (![N, C] : Fin 2 → ℕ) a) (i : Fin K) (k : Fin C) :
    window (s := ⟨2, ![N, C]⟩) x ![r, 0] ![K, C] inb (ix2 i k) = x (ix2 ⟨r + i.val, by have := inb 0; have h : r + K ≤ N := this; omega⟩ k) := by
  refine congrArg x ?_
  funext a
  match a with
  | ⟨0, _⟩ => exact Fin.ext (show r + 1 * i.val = r + i.val by omega)
  | ⟨1, _⟩ => exact Fin.ext (show 0 + 1 * k.val = k.val by omega)

/-- The words around some rows read, the rows put over them, the words written back: the rows put alone. -/
theorem put_blend {N M K C : ℕ} (x : (⟨2, ![N, C]⟩ : Shape).Idx → α) (o d : ℕ)
    (inb : ∀ a : Fin 2, (![o, 0] : Fin 2 → ℕ) a + (![M, C] : Fin 2 → ℕ) a ≤ (![N, C] : Fin 2 → ℕ) a)
    (hs : (⟨2, ![M, C]⟩ : Shape).Slices ![d, 0] ⟨2, ![K, C]⟩) (v : (⟨2, ![K, C]⟩ : Shape).Idx → α) :
    put (s := ⟨2, ![N, C]⟩) x ![o, 0] ![M, C]
        (updateSlice (s := ⟨2, ![M, C]⟩) (u := ⟨2, ![K, C]⟩) (window (s := ⟨2, ![N, C]⟩) x ![o, 0] ![M, C] inb) v ![d, 0] hs)
      = put (s := ⟨2, ![N, C]⟩) x ![o + d, 0] ![K, C] v := by
  have hd : d + K ≤ M := hs.2 0
  funext y
  obtain ⟨i, k, rfl⟩ : ∃ (i : Fin N) (k : Fin C), y = ix2 i k := ⟨_, _, eq_ix2 y⟩
  rw [put_rows, put_rows]
  by_cases h : o ≤ i.val ∧ i.val < o + M
  · rw [dif_pos h, show updateSlice (s := ⟨2, ![M, C]⟩) (u := ⟨2, ![K, C]⟩) (window (s := ⟨2, ![N, C]⟩) x ![o, 0] ![M, C] inb) v ![d, 0] hs
        = put (s := ⟨2, ![M, C]⟩) (window (s := ⟨2, ![N, C]⟩) x ![o, 0] ![M, C] inb) ![d, 0] ![K, C] v from
        (put_eq_updateSlice (s := ⟨2, ![M, C]⟩) _ ![d, 0] ![K, C] hs.2 v).symm, put_rows, window_rows]
    by_cases h' : o + d ≤ i.val ∧ i.val < o + d + K
    · rw [dif_pos h', dif_pos (by constructor <;> show _ <;> dsimp only <;> omega)]
      exact congrArg v (congrArg (ix2 · k) (Fin.ext (by show i.val - o - d = i.val - (o + d); omega)))
    · rw [dif_neg h', dif_neg (by dsimp only; omega)]
      exact congrArg x (congrArg (ix2 · k) (Fin.ext (by show o + (i.val - o) = i.val; omega)))
  · rw [dif_neg h, dif_neg (by omega)]

/-- Putting a whole array leaves that array. -/
theorem put_whole {α : Type} {N C : ℕ} (x v : (Shape.mk 2 ![N, C]).Idx → α) :
    VecWindow.put (s := Shape.mk 2 ![N, C]) x ![0, 0] ![N, C] v = v := by
  funext y
  obtain ⟨i, k, rfl⟩ : ∃ (i : Fin N) (k : Fin C), y = ix2 i k := ⟨_, _, eq_ix2 y⟩
  refine (put_rows x 0 v i k).trans ((dif_pos (by omega)).trans ?_)
  rfl

end RowBuf

end
-- ==== Proof.Rules.lean ====
/-
  Reading and writing buffers by values.  Every buffer of the kernel body is held by its own elements at the values it
  reads; a load hands the body a window of those values, a store leaves the values with the stored window put over them,
  and a store of rows that are part of their words leaves the words' values with the rows replaced.
-/
module

public import proofs.«01_k».proof.Proof.Gen.KernelIdeal.Skeleton
public import Idealize.ShloMosaic.Lib.VecWindow
public import Idealize.ShloMosaic.Lib.Pipeline.TableIdle

@[expose] public section

set_option maxRecDepth 16384

noncomputable section

namespace Cert.KernelIdeal.Body

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

variable {F : FTy → Type} [FloatOps F]

variable (F) in
/-- What a core can hold. -/
abbrev Res : Type := sProp (MT nD τ sig Unit (Elt F) ℕ (UR sig nD τ) ℕ)

/-- The weakest precondition of a program of core `c`, as the pipeline's body obligation reads it. -/
abbrev run (c : Dev nD) {α : Type} (p : Prog (TpuEff nD τ sig (Elt F) Λ₀ .tc) α) (Q : α → Res F) : Res F :=
  wp frame (wpE (defs₀ (F := F)) Variants.none (c : Thread nD τ) none) Set.univ p Q

/-- Core `c` holds the memref `M` whole, its elements reading `x`. -/
abbrev held (c : Dev nD) {s : Shape} {e : EltTy} (M : Memref sig .tc .vmem s e) (x : s.Idx → Elt F e) : Res F :=
  owns (c : Thread nD τ) M fullShare x

section Access

variable {c : Dev nD} {s : Shape} {e : EltTy} {M : Memref sig .tc .vmem s e} {x : s.Idx → Elt F e} {P : Res F} {P' : (s.Idx → Elt F e) → Res F}
variable {α : Type} {Q : α → Res F}

/-- A load at a unit-stride rectangle reads the window of the values there. -/
theorem ld {off size : Fin s.rank → ℕ} {inb : ∀ a, off a + size a ≤ s.size a} {hl : M.view.LoadsAt (Rect.unit off size inb).toLoadRect}
    {K : ((Rect.unit off size inb).shape.Idx → Elt F e) → Prog (TpuEff nD τ sig (Elt F) Λ₀ .tc) α}
    (acc : P ⊢ iprop(held c M x ∗ (∀ y, held c M y -∗ P' y)))
    (h : P' x ⊢ run c (K (window x off size inb)) Q) :
    P ⊢ run c (Prog.lift (.load M (Rect.unit off size inb).toLoadRect hl) >>= K) Q := by
  refine acc.trans ?_
  rw [show (held c M x : Res F) = _ from owns_eq_rep (c : Thread nD τ) M fullShare x]
  iintro ⟨H, Hk⟩
  iapply (wp_load Variants.none (c : Thread nD τ) none Set.univ (m := M) (k := K) (S := M.view.set) (View.setOn_subset_set _ _)) $$ H
  iintro H
  rw [View.readAt_rep_unit M.view x inb rfl inb]
  iapply h
  iapply Hk
  rw [show (held c M x : Res F) = _ from owns_eq_rep (c : Thread nD τ) M fullShare x]
  iexact H

/-- A store of a whole window puts the stored values there. -/
theorem st {off size : Fin s.rank → ℕ} {inb : ∀ a, off a + size a ≤ s.size a} {w : (Rect.unit off size inb).shape.Idx → Elt F e}
    {hs : (M.access (Rect.unit off size inb)).Stores Finset.univ} {hm : (Finset.univ : Finset (Rect.unit off size inb).shape.Idx) = Finset.univ ∨ ∀ a, (Rect.unit off size inb).stride a = 1} {K : PUnit.{1} → Prog (TpuEff nD τ sig (Elt F) Λ₀ .tc) α}
    (acc : P ⊢ iprop(held c M x ∗ (∀ y, held c M y -∗ P' y)))
    (h : P' (VecWindow.put x off size w) ⊢ run c (K ⟨⟩) Q) :
    P ⊢ run c (Prog.lift (.store M (Rect.unit off size inb) w Finset.univ hs hm) >>= K) Q := by
  refine acc.trans ?_
  rw [show (held c M x : Res F) = _ from owns_eq_rep (c : Thread nD τ) M fullShare x]
  iintro ⟨H, Hk⟩
  have hS : (M.access (Rect.unit off size inb)).setOn Finset.univ ⊆ M.view.set := by
    rw [View.setOn_univ, View.set_slice]; exact View.setOn_subset_set _ _
  iapply (wp_store Variants.none (c : Thread nD τ) none Set.univ (m := M) (r := Rect.unit off size inb) (k := K) (S := M.view.set) hS) $$ H
  iintro H
  iapply h
  iapply Hk
  rw [show (held c M (VecWindow.put x off size w) : Res F) = _ from owns_eq_rep (c : Thread nD τ) M fullShare _]
  have hr : M.view.read (Elt F) ((M.access (Rect.unit off size inb)).write (Elt F) (M.view.rep x) w Finset.univ) = VecWindow.put x off size w :=
    View.read_writes_rep_unit M.view x inb w rfl
  iapply (pointsTo_rep_of_read (c : Thread nD τ) M _ fullShare (VecWindow.put x off size w) hr) $$ H

/-- A store of rows that are part of their words: the words read, the rows put over them, the words written back. -/
theorem blend {off size : Fin s.rank → ℕ} {inb : ∀ a, off a + size a ≤ s.size a}
    {w : ((Rect.unit off size inb).shape.Idx → Elt F e) → ((Rect.unit off size inb).shape.Idx → Elt F e)}
    {hl : M.view.LoadsAt (Rect.unit off size inb).toLoadRect} {hs : (M.access (Rect.unit off size inb)).Stores Finset.univ}
    {K : PUnit.{1} → Prog (TpuEff nD τ sig (Elt F) Λ₀ .tc) α}
    (acc : P ⊢ iprop(held c M x ∗ (∀ y, held c M y -∗ P' y)))
    (h : P' (VecWindow.put x off size (w (window x off size inb))) ⊢ run c (K ⟨⟩) Q) :
    P ⊢ run c (storeSubelements M (Rect.unit off size inb) w hl hs >>= K) Q := by
  have aux : P ⊢ run c (Prog.lift (.load M (Rect.unit off size inb).toLoadRect hl) >>= fun old =>
      Prog.lift (.store M (Rect.unit off size inb) (w old) Finset.univ hs (.inl rfl)) >>= K) Q := by
    refine ld (P' := fun y => iprop(held c M y ∗ (∀ y, held c M y -∗ P' y))) (acc.trans ?_) (st (P' := P') .rfl h)
    iintro ⟨H, Hk⟩
    isplitl [H]; · iexact H
    iintro %y H
    isplitl [H]; · iexact H
    iexact Hk
  exact aux

end Access

/-- The focus at the head of a chain of resources, -/
theorem acc_here {A : Res F} {ι : Type} {A' : ι → Res F} {R : Res F} :
    iprop(A ∗ R) ⊢ iprop(A ∗ (∀ y, A' y -∗ (A' y ∗ R))) := by
  iintro ⟨H, HR⟩
  isplitl [H]; · iexact H
  iintro %y H
  isplitl [H]; · iexact H
  iexact HR

/-- and one place further on. -/
theorem acc_next {A B R : Res F} {ι : Type} {A' R' : ι → Res F}
    (h : R ⊢ iprop(A ∗ (∀ y, A' y -∗ R' y))) :
    iprop(B ∗ R) ⊢ iprop(A ∗ (∀ y, A' y -∗ (B ∗ R' y))) := by
  iintro ⟨HB, HR⟩
  ihave H := h $$ HR
  icases H with ⟨H, Hk⟩
  isplitl [H]; · iexact H
  iintro %y H
  isplitl [HB]; · iexact HB
  iapply Hk
  iexact H

end Cert.KernelIdeal.Body

end
-- ==== Proof.Contents.lean ====
/-
  What the kernel body keeps in its scratch buffers.  The padded image `xbAt` holds the rows of the image at a pitch of
  eighty rows with zeros around them; two more buffers hold it one row down and one row up; the features are computed
  from windows of 1040 rows of these and their 75 valid rows of every eighty are gathered in a last buffer.
-/
module

public import proofs.«01_k».proof.Proof.Rules
public import proofs.«01_k».proof.Proof.Put

@[expose] public section

set_option maxRecDepth 16384

noncomputable section

namespace Cert.KernelIdeal.Body

open Cert.KernelIdeal Cert.KernelIdeal.Gen
open Idealize.ShloMosaic Idealize.ShloMosaic.TcCoe
open VecWindow RowBuf

variable {F : FTy → Type} [FloatOps F]

/-- The zero the kernel pads with. -/
def zc : F .bf16 := Scalar.ofBits .bf16 0x0000#16

/-- Row `r` of the padded image after `n` image rows have been stored: image row `h` occupies the 75 rows from
    `169 + 80 h`, all else is zero. -/
def xval (X : Vec F S50x75x512 .bf16) (n r : ℕ) (k : Fin 512) : F .bf16 :=
  if h : 169 ≤ r ∧ (r - 169) % 80 < 75 ∧ (r - 169) / 80 < n ∧ (r - 169) / 80 < 50 then
    X (ix3 ⟨(r - 169) / 80, h.2.2.2⟩ ⟨(r - 169) % 80, h.2.1⟩ k)
  else zc

/-- The padded image after `n` rows. -/
def xbAt (X : Vec F S50x75x512 .bf16) (n : ℕ) : Vec F S4336x512 .bf16 := fun j => xval X n (j 0).val (j 1)

/-- 1040 rows of the padded image from row `r`. -/
def xs (X : Vec F S50x75x512 .bf16) (r : ℕ) : Vec F S1040x512 .bf16 := fun j => xval X 50 (r + (j 0).val) (j 1)

/-- The padded image one row further down; the first row keeps what it held. -/
def xpOf (X : Vec F S50x75x512 .bf16) (x : Vec F S4336x512 .bf16) : Vec F S4336x512 .bf16 := fun j =>
  if (j 0).val = 0 then x j else xval X 50 ((j 0).val - 1) (j 1)

/-- The padded image one row further up; the last row keeps what it held. -/
def xnOf (X : Vec F S50x75x512 .bf16) (x : Vec F S4336x512 .bf16) : Vec F S4336x512 .bf16 := fun j =>
  if (j 0).val = 4335 then x j else xval X 50 ((j 0).val + 1) (j 1)

theorem inbRow {n : ℕ} (hn : n < 50) : ∀ a : Fin 3, (![n, 0, 0] : Fin 3 → ℕ) a + S1x75x512.size a ≤ S50x75x512.size a := fun a => by
  match a with
  | ⟨0, _⟩ => show n + 1 ≤ 50; omega
  | ⟨1, _⟩ => show 0 + 75 ≤ 75; omega
  | ⟨2, _⟩ => show 0 + 512 ≤ 512; omega

/-- Image row `n`, as the kernel stores it. -/
def rowOf (X : Vec F S50x75x512 .bf16) (n : ℕ) (hn : n < 50) : FVec F S75x512 .bf16 :=
  shapeCast S75x512 (shapeCast S75x512 (window X ![n, 0, 0] S1x75x512.size (inbRow hn)) shapeCasts_S1x75x512_S75x512) shapeCasts_S75x512_S75x512

theorem flat_row (v : Vec F S1x75x512 .bf16) (i : Fin 75) (k : Fin 512) :
    shapeCast S75x512 v shapeCasts_S1x75x512_S75x512 (ix2 i k) = v (ix3 0 i k) := by
  pointwise

theorem rowOf_apply (X : Vec F S50x75x512 .bf16) {n : ℕ} (hn : n < 50) (i : Fin 75) (k : Fin 512) :
    rowOf X n hn (ix2 i k) = X (ix3 ⟨n, hn⟩ i k) := by
  unfold rowOf
  rw [shapeCast_self, flat_row]
  refine congrArg X ?_
  funext a
  match a with
  | ⟨0, _⟩ => exact Fin.ext (show n + 1 * 0 = n by omega)
  | ⟨1, _⟩ => exact Fin.ext (show 0 + 1 * i.val = i.val by omega)
  | ⟨2, _⟩ => exact Fin.ext (show 0 + 1 * k.val = k.val by omega)

/-- The cleared buffer is the padded image with no row stored. -/
theorem put_zero (X : Vec F S50x75x512 .bf16) (x : Vec F S4336x512 .bf16) :
    put (s := S4336x512) x ![0, 0] S4336x512.size (k0_pay1 (F := F)) = xbAt X 0 := by
  funext y
  obtain ⟨i, k, rfl⟩ : ∃ (i : Fin 4336) (k : Fin 512), y = ix2 i k := ⟨_, _, eq_ix2 y⟩
  have h := put_rows (N := 4336) (K := 4336) (C := 512) x 0 (k0_pay1 (F := F)) i k
  refine h.trans ((dif_pos (by omega)).trans ?_)
  refine Eq.trans ?_ (dif_neg (by omega)).symm
  rfl

/-- Storing image row `n` over the padded image with `n` rows. -/
theorem put_row (X : Vec F S50x75x512 .bf16) {n : ℕ} (hn : n < 50) :
    put (s := S4336x512) (xbAt X n) ![168 + 80 * n + 1, 0] S75x512.size (rowOf X n hn) = xbAt X (n + 1) := by
  funext y
  obtain ⟨i, k, rfl⟩ : ∃ (i : Fin 4336) (k : Fin 512), y = ix2 i k := ⟨_, _, eq_ix2 y⟩
  refine (put_rows (N := 4336) (K := 75) (C := 512) _ _ _ i k).trans ?_
  show _ = xval X (n + 1) i.val k
  by_cases h : 168 + 80 * n + 1 ≤ i.val ∧ i.val < 168 + 80 * n + 1 + 75
  · rw [dif_pos h, rowOf_apply]
    have e1 : (i.val - 169) / 80 = n := by omega
    have e2 : (i.val - 169) % 80 = i.val - (168 + 80 * n + 1) := by omega
    unfold xval
    rw [dif_pos (by omega)]
    refine congrArg X ?_
    funext a
    match a with
    | ⟨0, _⟩ => exact Fin.ext e1.symm
    | ⟨1, _⟩ => exact Fin.ext e2.symm
    | ⟨2, _⟩ => rfl
  · rw [dif_neg h]
    show xval X n i.val k = _
    unfold xval
    by_cases h' : 169 ≤ i.val ∧ (i.val - 169) % 80 < 75 ∧ (i.val - 169) / 80 < n ∧ (i.val - 169) / 80 < 50
    · rw [dif_pos h', dif_pos (by omega)]
    · rw [dif_neg h', dif_neg (by omega)]

/-- The image stored one row down. -/
theorem put_down (X : Vec F S50x75x512 .bf16) (x : Vec F S4336x512 .bf16) (inb) :
    put (s := S4336x512) x ![0 + 1, 0] S4335x512.size (k0_pay56 (window (xbAt X 50) ![0, 0] S4335x512.size inb)) = xpOf X x := by
  funext y
  obtain ⟨i, k, rfl⟩ : ∃ (i : Fin 4336) (k : Fin 512), y = ix2 i k := ⟨_, _, eq_ix2 y⟩
  refine (put_rows (N := 4336) (K := 4335) (C := 512) _ _ _ i k).trans ?_
  show _ = (if i.val = 0 then x (ix2 i k) else xval X 50 (i.val - 1) k)
  by_cases h : i.val = 0
  · rw [if_pos h, dif_neg (by omega)]
  · rw [if_neg h, dif_pos (by omega)]
    dsimp only [k0_pay56]
    rw [shapeCast_self]
    refine (window_rows (N := 4336) (K := 4335) (C := 512) (xbAt X 50) 0 inb _ k).trans ?_
    exact congrArg (xval X 50 · k) (show 0 + (i.val - (0 + 1)) = i.val - 1 by omega)

/-- The image stored one row up. -/
theorem put_up (X : Vec F S50x75x512 .bf16) (x : Vec F S4336x512 .bf16) (inb) :
    put (s := S4336x512) x ![0 + 0, 0] S4335x512.size (k0_pay57 (window (xbAt X 50) ![1, 0] S4335x512.size inb)) = xnOf X x := by
  funext y
  obtain ⟨i, k, rfl⟩ : ∃ (i : Fin 4336) (k : Fin 512), y = ix2 i k := ⟨_, _, eq_ix2 y⟩
  refine (put_rows (N := 4336) (K := 4335) (C := 512) _ _ _ i k).trans ?_
  show _ = (if i.val = 4335 then x (ix2 i k) else xval X 50 (i.val + 1) k)
  by_cases h : i.val = 4335
  · rw [if_pos h, dif_neg (by omega)]
  · rw [if_neg h, dif_pos (by omega)]
    dsimp only [k0_pay57]
    rw [shapeCast_self]
    refine (window_rows (N := 4336) (K := 4335) (C := 512) (xbAt X 50) 1 inb _ k).trans ?_
    exact congrArg (xval X 50 · k) (show 1 + (i.val - (0 + 0)) = i.val + 1 by omega)

/-- 1040 rows of the padded image and of its two shifted copies. -/
theorem window_mid (X : Vec F S50x75x512 .bf16) (o : ℕ) (inb) : window (s := S4336x512) (xbAt X 50) ![o, 0] S1040x512.size inb = xs X o := by
  funext y
  obtain ⟨i, k, rfl⟩ : ∃ (i : Fin 1040) (k : Fin 512), y = ix2 i k := ⟨_, _, eq_ix2 y⟩
  exact window_rows (N := 4336) (K := 1040) (C := 512) (xbAt X 50) o inb i k

theorem window_down (X : Vec F S50x75x512 .bf16) (x : Vec F S4336x512 .bf16) (o : ℕ) (ho : 1 ≤ o) (inb) :
    window (s := S4336x512) (xpOf X x) ![o, 0] S1040x512.size inb = xs X (o - 1) := by
  funext y
  obtain ⟨i, k, rfl⟩ : ∃ (i : Fin 1040) (k : Fin 512), y = ix2 i k := ⟨_, _, eq_ix2 y⟩
  refine (window_rows (N := 4336) (K := 1040) (C := 512) (xpOf X x) o inb i k).trans ?_
  refine (if_neg (show ¬ o + i.val = 0 by omega)).trans ?_
  exact congrArg (xval X 50 · k) (show o + i.val - 1 = o - 1 + i.val by omega)

theorem window_up (X : Vec F S50x75x512 .bf16) (x : Vec F S4336x512 .bf16) (o : ℕ) (ho : o + 1040 ≤ 4335) (inb) :
    window (s := S4336x512) (xnOf X x) ![o, 0] S1040x512.size inb = xs X (o + 1) := by
  funext y
  obtain ⟨i, k, rfl⟩ : ∃ (i : Fin 1040) (k : Fin 512), y = ix2 i k := ⟨_, _, eq_ix2 y⟩
  refine (window_rows (N := 4336) (K := 1040) (C := 512) (xnOf X x) o inb i k).trans ?_
  refine (if_neg (show ¬ o + i.val = 4335 by omega)).trans ?_
  exact congrArg (xval X 50 · k) (show o + i.val + 1 = o + 1 + i.val by omega)

end Cert.KernelIdeal.Body

end
-- ==== Proof.Features.lean ====
/-
  The features the kernel gathers: a chunk of 1040 rows is the product of nine shifted windows of the padded image with
  the nine slices of the weights, plus the bias, clamped at zero; row `n` of the feature map is 75 rows of its chunk.
-/
module

public import proofs.«01_k».proof.Proof.Contents

@[expose] public section

set_option maxRecDepth 16384

noncomputable section

namespace Cert.KernelIdeal.Body

open Cert.KernelIdeal Cert.KernelIdeal.Gen
open Idealize.ShloMosaic Idealize.ShloMosaic.TcCoe
open VecWindow RowBuf

variable {F : FTy → Type} [FloatOps F]

variable (F) in
/-- What the seven input windows hold. -/
structure Ins where
  x0 : Vec F S50x75x512 .bf16
  x1 : Vec F S9x512x512 .f32
  x2 : Vec F S1x512 .f32
  x3 : Vec F S144x128 .f32
  x4 : Vec F S72x128 .f32
  x5 : Vec F S1x36 .f32
  x6 : Vec F S1x18 .f32

/-- The nine slices of the weights side by side. -/
def wcat (I : Ins F) : FVec F S512x4608 .bf16 :=
  k0_pay62
    (k0_pay58 (window I.x1 ![0, 0, 0] S1x512x512.size inb_S9x512x512_S1x512x512_0_0_0))
    (k0_pay59 (window I.x1 ![1, 0, 0] S1x512x512.size inb_S9x512x512_S1x512x512_1_0_0))
    (k0_pay60 (window I.x1 ![2, 0, 0] S1x512x512.size inb_S9x512x512_S1x512x512_2_0_0))
    (k0_pay61 (window I.x1 ![3, 0, 0] S1x512x512.size inb_S9x512x512_S1x512x512_3_0_0))
    (window I.x1 ![4, 0, 0] S1x512x512.size inb_S9x512x512_S1x512x512_4_0_0)
    (window I.x1 ![5, 0, 0] S1x512x512.size inb_S9x512x512_S1x512x512_5_0_0)
    (window I.x1 ![6, 0, 0] S1x512x512.size inb_S9x512x512_S1x512x512_6_0_0)
    (window I.x1 ![7, 0, 0] S1x512x512.size inb_S9x512x512_S1x512x512_7_0_0)
    (window I.x1 ![8, 0, 0] S1x512x512.size inb_S9x512x512_S1x512x512_8_0_0)

/-- The features of the 1040 rows whose middle tap begins at row `o` plus eighty of the padded image. -/
def feat (I : Ins F) (o : ℕ) : FVec F S1040x512 .bf16 :=
  k0_pay77 (wcat I) (xs I.x0 (o - 1)) (xs I.x0 o) (xs I.x0 (o + 1))
    (xs I.x0 (o + 80 - 1)) (xs I.x0 (o + 80)) (xs I.x0 (o + 80 + 1))
    (xs I.x0 (o + 160 - 1)) (xs I.x0 (o + 160)) (xs I.x0 (o + 160 + 1))
    (window I.x2 ![0, 0] S1x512.size inb_S1x512_S1x512_0_0)

theorem slicesRow (n : ℕ) : S1040x512.Slices ![1 + 80 * ((n + 1) % 13), 0] S75x512 :=
  ⟨rfl, fun a => by
    match a with
    | ⟨0, _⟩ => show 1 + 80 * ((n + 1) % 13) + 75 ≤ 1040; omega
    | ⟨1, _⟩ => show 0 + 512 ≤ 512; omega⟩

/-- Row `n` of the feature map, as the kernel stores it. -/
def ftRow (I : Ins F) (n : ℕ) : FVec F S75x512 .bf16 :=
  shapeCast S75x512 (extractStridedSlice S75x512 ![1 + 80 * ((n + 1) % 13), 0] (feat I (8 + 1040 * ((n + 1) / 13))) (slicesRow n)) shapeCasts_S75x512_S75x512

/-- The whole feature map, its rows one after the other. -/
def featMap (I : Ins F) : Vec F S3750x512 .bf16 := fun j =>
  ftRow I ((j 0).val / 75) (ix2 ⟨(j 0).val % 75, Nat.mod_lt _ (by decide)⟩ (j 1))

/-- The gathered features after `n` rows. -/
def fvAt (I : Ins F) (f : Vec F S3750x512 .bf16) (n : ℕ) : Vec F S3750x512 .bf16 := fun j =>
  if (j 0).val < 75 * n then featMap I j else f j

theorem fvAt_zero (I : Ins F) (f : Vec F S3750x512 .bf16) : fvAt I f 0 = f := funext fun _ => if_neg (by omega)

theorem fvAt_all (I : Ins F) (f : Vec F S3750x512 .bf16) : fvAt I f 50 = featMap I :=
  funext fun j => if_pos (show (j 0).val < 3750 from (j 0).isLt)

/-- Storing row `n` over the features gathered so far. -/
theorem put_feat (I : Ins F) (f : Vec F S3750x512 .bf16) {n o : ℕ} (ho : o = 75 * n) :
    put (s := S3750x512) (fvAt I f n) ![o, 0] S75x512.size (ftRow I n) = fvAt I f (n + 1) := by
  subst ho
  funext y
  obtain ⟨i, k, rfl⟩ : ∃ (i : Fin 3750) (k : Fin 512), y = ix2 i k := ⟨_, _, eq_ix2 y⟩
  refine (put_rows (N := 3750) (K := 75) (C := 512) _ _ _ i k).trans ?_
  show _ = (if i.val < 75 * (n + 1) then featMap I (ix2 i k) else f (ix2 i k))
  by_cases h : 75 * n ≤ i.val ∧ i.val < 75 * n + 75
  · rw [dif_pos h, if_pos (by omega)]
    have e1 : i.val / 75 = n := by omega
    have e2 : i.val % 75 = i.val - 75 * n := by omega
    show _ = ftRow I (i.val / 75) (ix2 ⟨i.val % 75, _⟩ k)
    rw [e1]
    exact congrArg (fun a => ftRow I n (ix2 a k)) (Fin.ext e2.symm)
  · rw [dif_neg h]
    show (if i.val < 75 * n then featMap I (ix2 i k) else f (ix2 i k)) = _
    by_cases h' : i.val < 75 * n
    · rw [if_pos h', if_pos (by omega)]
    · rw [if_neg h', if_neg (by omega)]

end Cert.KernelIdeal.Body

end
-- ==== Proof.Steps.lean ====
/-
  The state of the kernel body: what its thirteen memrefs hold, the rules for a load from each, and one rule for every
  kind of store the body makes, stated with the contents it leaves.
-/
module

public import proofs.«01_k».proof.Proof.Features

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow RowBuf

variable {F : FTy → Type} [FloatOps F]

/-- The memrefs the body runs on, each a whole buffer. -/
structure Bufs where
  a0 : Memref sig .tc .vmem S50x75x512 .bf16
  h0 : a0.IsWhole
  a1 : Memref sig .tc .vmem S9x512x512 .f32
  h1 : a1.IsWhole
  a2 : Memref sig .tc .vmem S1x512 .f32
  h2 : a2.IsWhole
  a3 : Memref sig .tc .vmem S144x128 .f32
  h3 : a3.IsWhole
  a4 : Memref sig .tc .vmem S72x128 .f32
  h4 : a4.IsWhole
  a5 : Memref sig .tc .vmem S1x36 .f32
  h5 : a5.IsWhole
  a6 : Memref sig .tc .vmem S1x18 .f32
  h6 : a6.IsWhole
  a7 : Memref sig .tc .vmem S36x3750 .f32
  h7 : a7.IsWhole
  a8 : Memref sig .tc .vmem S18x3750 .f32
  h8 : a8.IsWhole
  a9 : Memref sig .tc .vmem S4336x512 .bf16
  h9 : a9.IsWhole
  a10 : Memref sig .tc .vmem S4336x512 .bf16
  h10 : a10.IsWhole
  a11 : Memref sig .tc .vmem S4336x512 .bf16
  h11 : a11.IsWhole
  a12 : Memref sig .tc .vmem S3750x512 .bf16
  h12 : a12.IsWhole

/-- What core `c` holds while the body runs: the inputs `I`, the two outputs, the padded image, its two shifted copies
    and the gathered features. -/
def St (c : Dev nD) (A : Bufs) (I : Ins F) (y7 : Vec F S36x3750 .f32) (y8 : Vec F S18x3750 .f32)
    (xb xp xn : Vec F S4336x512 .bf16) (fv : Vec F S3750x512 .bf16) : Res F :=
  iprop(held c A.a0 I.x0 ∗ held c A.a1 I.x1 ∗ held c A.a2 I.x2 ∗ held c A.a3 I.x3 ∗ held c A.a4 I.x4 ∗ held c A.a5 I.x5 ∗ held c A.a6 I.x6 ∗ held c A.a7 y7 ∗ held c A.a8 y8 ∗ held c A.a9 xb ∗ held c A.a10 xp ∗ held c A.a11 xn ∗ held c A.a12 fv)

variable {c : Dev nD} {A : Bufs} {I : Ins F} {y7 : Vec F S36x3750 .f32} {y8 : Vec F S18x3750 .f32}
variable {xb xp xn : Vec F S4336x512 .bf16} {fv : Vec F S3750x512 .bf16}
variable {α : Type} {Q : α → Res F}

theorem acc_last {A : Res F} {ι : Type} {A' : ι → Res F} : A ⊢ iprop(A ∗ (∀ y, A' y -∗ A' y)) := by
  iintro H
  isplitl [H]; · iexact H
  iintro %y H
  iexact H

section Places

theorem at0 : St c A I y7 y8 xb xp xn fv ⊢ iprop(held c A.a0 I.x0 ∗ (∀ y, held c A.a0 y -∗ St c A { I with x0 := y } y7 y8 xb xp xn fv)) :=
  acc_here

theorem at1 : St c A I y7 y8 xb xp xn fv ⊢ iprop(held c A.a1 I.x1 ∗ (∀ y, held c A.a1 y -∗ St c A { I with x1 := y } y7 y8 xb xp xn fv)) :=
  acc_next acc_here

theorem at2 : St c A I y7 y8 xb xp xn fv ⊢ iprop(held c A.a2 I.x2 ∗ (∀ y, held c A.a2 y -∗ St c A { I with x2 := y } y7 y8 xb xp xn fv)) :=
  acc_next (acc_next acc_here)

theorem at3 : St c A I y7 y8 xb xp xn fv ⊢ iprop(held c A.a3 I.x3 ∗ (∀ y, held c A.a3 y -∗ St c A { I with x3 := y } y7 y8 xb xp xn fv)) :=
  acc_next (acc_next (acc_next acc_here))

theorem at4 : St c A I y7 y8 xb xp xn fv ⊢ iprop(held c A.a4 I.x4 ∗ (∀ y, held c A.a4 y -∗ St c A { I with x4 := y } y7 y8 xb xp xn fv)) :=
  acc_next (acc_next (acc_next (acc_next acc_here)))

theorem at5 : St c A I y7 y8 xb xp xn fv ⊢ iprop(held c A.a5 I.x5 ∗ (∀ y, held c A.a5 y -∗ St c A { I with x5 := y } y7 y8 xb xp xn fv)) :=
  acc_next (acc_next (acc_next (acc_next (acc_next acc_here))))

theorem at6 : St c A I y7 y8 xb xp xn fv ⊢ iprop(held c A.a6 I.x6 ∗ (∀ y, held c A.a6 y -∗ St c A { I with x6 := y } y7 y8 xb xp xn fv)) :=
  acc_next (acc_next (acc_next (acc_next (acc_next (acc_next acc_here)))))

theorem at7 : St c A I y7 y8 xb xp xn fv ⊢ iprop(held c A.a7 y7 ∗ (∀ y, held c A.a7 y -∗ St c A I y y8 xb xp xn fv)) :=
  acc_next (acc_next (acc_next (acc_next (acc_next (acc_next (acc_next acc_here))))))

theorem at8 : St c A I y7 y8 xb xp xn fv ⊢ iprop(held c A.a8 y8 ∗ (∀ y, held c A.a8 y -∗ St c A I y7 y xb xp xn fv)) :=
  acc_next (acc_next (acc_next (acc_next (acc_next (acc_next (acc_next (acc_next acc_here)))))))

theorem at9 : St c A I y7 y8 xb xp xn fv ⊢ iprop(held c A.a9 xb ∗ (∀ y, held c A.a9 y -∗ St c A I y7 y8 y xp xn fv)) :=
  acc_next (acc_next (acc_next (acc_next (acc_next (acc_next (acc_next (acc_next (acc_next acc_here))))))))

theorem at10 : St c A I y7 y8 xb xp xn fv ⊢ iprop(held c A.a10 xp ∗ (∀ y, held c A.a10 y -∗ St c A I y7 y8 xb y xn fv)) :=
  acc_next (acc_next (acc_next (acc_next (acc_next (acc_next (acc_next (acc_next (acc_next (acc_next acc_here)))))))))

theorem at11 : St c A I y7 y8 xb xp xn fv ⊢ iprop(held c A.a11 xn ∗ (∀ y, held c A.a11 y -∗ St c A I y7 y8 xb xp y fv)) :=
  acc_next (acc_next (acc_next (acc_next (acc_next (acc_next (acc_next (acc_next (acc_next (acc_next (acc_next acc_here))))))))))

theorem at12 : St c A I y7 y8 xb xp xn fv ⊢ iprop(held c A.a12 fv ∗ (∀ y, held c A.a12 y -∗ St c A I y7 y8 xb xp xn y)) :=
  acc_next (acc_next (acc_next (acc_next (acc_next (acc_next (acc_next (acc_next (acc_next (acc_next (acc_next (acc_next acc_last)))))))))))

end Places

section Loads

/-- A load of the image, the weights, the biases, an output or a scratch buffer reads a window of it. -/
theorem ld0 {off size : Fin S50x75x512.rank → ℕ} {inb : ∀ a, off a + size a ≤ S50x75x512.size a} {hl : A.a0.view.LoadsAt (Rect.unit off size inb).toLoadRect}
    {K : ((Rect.unit off size inb).shape.Idx → Elt F .bf16) → Prog (TpuEff nD τ sig (Elt F) Λ₀ .tc) α}
    (h : St c A I y7 y8 xb xp xn fv ⊢ run c (K (window I.x0 off size inb)) Q) :
    St c A I y7 y8 xb xp xn fv ⊢ run c (Prog.lift (.load A.a0 (Rect.unit off size inb).toLoadRect hl) >>= K) Q :=
  ld at0 h

theorem ld1 {off size : Fin S9x512x512.rank → ℕ} {inb : ∀ a, off a + size a ≤ S9x512x512.size a} {hl : A.a1.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window I.x1 off size inb)) Q) :
    St c A I y7 y8 xb xp xn fv ⊢ run c (Prog.lift (.load A.a1 (Rect.unit off size inb).toLoadRect hl) >>= K) Q :=
  ld at1 h

theorem ld2 {off size : Fin S1x512.rank → ℕ} {inb : ∀ a, off a + size a ≤ S1x512.size a} {hl : A.a2.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window I.x2 off size inb)) Q) :
    St c A I y7 y8 xb xp xn fv ⊢ run c (Prog.lift (.load A.a2 (Rect.unit off size inb).toLoadRect hl) >>= K) Q :=
  ld at2 h

theorem ld3 {off size : Fin S144x128.rank → ℕ} {inb : ∀ a, off a + size a ≤ S144x128.size a} {hl : A.a3.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window I.x3 off size inb)) Q) :
    St c A I y7 y8 xb xp xn fv ⊢ run c (Prog.lift (.load A.a3 (Rect.unit off size inb).toLoadRect hl) >>= K) Q :=
  ld at3 h

theorem ld4 {off size : Fin S72x128.rank → ℕ} {inb : ∀ a, off a + size a ≤ S72x128.size a} {hl : A.a4.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window I.x4 off size inb)) Q) :
    St c A I y7 y8 xb xp xn fv ⊢ run c (Prog.lift (.load A.a4 (Rect.unit off size inb).toLoadRect hl) >>= K) Q :=
  ld at4 h

theorem ld5 {off size : Fin S1x36.rank → ℕ} {inb : ∀ a, off a + size a ≤ S1x36.size a} {hl : A.a5.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window I.x5 off size inb)) Q) :
    St c A I y7 y8 xb xp xn fv ⊢ run c (Prog.lift (.load A.a5 (Rect.unit off size inb).toLoadRect hl) >>= K) Q :=
  ld at5 h

theorem ld6 {off size : Fin S1x18.rank → ℕ} {inb : ∀ a, off a + size a ≤ S1x18.size a} {hl : A.a6.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window I.x6 off size inb)) Q) :
    St c A I y7 y8 xb xp xn fv ⊢ run c (Prog.lift (.load A.a6 (Rect.unit off size inb).toLoadRect hl) >>= K) Q :=
  ld at6 h

theorem ld7 {off size : Fin S36x3750.rank → ℕ} {inb : ∀ a, off a + size a ≤ S36x3750.size a} {hl : A.a7.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window y7 off size inb)) Q) :
    St c A I y7 y8 xb xp xn fv ⊢ run c (Prog.lift (.load A.a7 (Rect.unit off size inb).toLoadRect hl) >>= K) Q :=
  ld at7 h

theorem ld8 {off size : Fin S18x3750.rank → ℕ} {inb : ∀ a, off a + size a ≤ S18x3750.size a} {hl : A.a8.view.LoadsAt (Rect.unit off size inb).toLoadRect}
    {K : ((Rect.unit off size inb).shape.Idx → Elt F .f32) → Prog (TpuEff nD τ sig (Elt F) Λ₀ .tc) α}
    (h : St c A I y7 y8 xb xp xn fv ⊢ run c (K (window y8 off size inb)) Q) :
    St c A I y7 y8 xb xp xn fv ⊢ run c (Prog.lift (.load A.a8 (Rect.unit off size inb).toLoadRect hl) >>= K) Q :=
  ld at8 h

theorem ld9 {off size : Fin S4336x512.rank → ℕ} {inb : ∀ a, off a + size a ≤ S4336x512.size a} {hl : A.a9.view.LoadsAt (Rect.unit off size inb).toLoadRect}
    {K : ((Rect.unit off size inb).shape.Idx → Elt F .bf16) → Prog (TpuEff nD τ sig (Elt F) Λ₀ .tc) α}
    (h : St c A I y7 y8 xb xp xn fv ⊢ run c (K (window xb off size inb)) Q) :
    St c A I y7 y8 xb xp xn fv ⊢ run c (Prog.lift (.load A.a9 (Rect.unit off size inb).toLoadRect hl) >>= K) Q :=
  ld at9 h

theorem ld10 {off size : Fin S4336x512.rank → ℕ} {inb : ∀ a, off a + size a ≤ S4336x512.size a} {hl : A.a10.view.LoadsAt (Rect.unit off size inb).toLoadRect}
    {K : ((Rect.unit off size inb).shape.Idx → Elt F .bf16) → Prog (TpuEff nD τ sig (Elt F) Λ₀ .tc) α}
    (h : St c A I y7 y8 xb xp xn fv ⊢ run c (K (window xp off size inb)) Q) :
    St c A I y7 y8 xb xp xn fv ⊢ run c (Prog.lift (.load A.a10 (Rect.unit off size inb).toLoadRect hl) >>= K) Q :=
  ld at10 h

theorem ld11 {off size : Fin S4336x512.rank → ℕ} {inb : ∀ a, off a + size a ≤ S4336x512.size a} {hl : A.a11.view.LoadsAt (Rect.unit off size inb).toLoadRect}
    {K : ((Rect.unit off size inb).shape.Idx → Elt F .bf16) → Prog (TpuEff nD τ sig (Elt F) Λ₀ .tc) α}
    (h : St c A I y7 y8 xb xp xn fv ⊢ run c (K (window xn off size inb)) Q) :
    St c A I y7 y8 xb xp xn fv ⊢ run c (Prog.lift (.load A.a11 (Rect.unit off size inb).toLoadRect hl) >>= K) Q :=
  ld at11 h

theorem ld12 {off size : Fin S3750x512.rank → ℕ} {inb : ∀ a, off a + size a ≤ S3750x512.size a} {hl : A.a12.view.LoadsAt (Rect.unit off size inb).toLoadRect}
    {K : ((Rect.unit off size inb).shape.Idx → Elt F .bf16) → Prog (TpuEff nD τ sig (Elt F) Λ₀ .tc) α}
    (h : St c A I y7 y8 xb xp xn fv ⊢ run c (K (window fv off size inb)) Q) :
    St c A I y7 y8 xb xp xn fv ⊢ run c (Prog.lift (.load A.a12 (Rect.unit off size inb).toLoadRect hl) >>= K) Q :=
  ld at12 h

end Loads

section Taps

variable {x : Vec F S4336x512 .bf16} {o : ℕ}

/-- A load of 1040 rows of the padded image or of a shifted copy. -/
theorem tap_mid {inb : ∀ a, (![o, 0] : Fin 2 → ℕ) a + S1040x512.size a ≤ S4336x512.size a} {hl : A.a9.view.LoadsAt (Rect.unit (s := S4336x512) ![o, 0] S1040x512.size inb).toLoadRect}
    {K : Vec F S1040x512 .bf16 → Prog (TpuEff nD τ sig (Elt F) Λ₀ .tc) α}
    (h : St c A I y7 y8 (xbAt I.x0 50) xp xn fv ⊢ run c (K (xs I.x0 o)) Q) :
    St c A I y7 y8 (xbAt I.x0 50) xp xn fv ⊢ run c (Prog.lift (.load A.a9 (Rect.unit (s := S4336x512) ![o, 0] S1040x512.size inb).toLoadRect hl) >>= K) Q :=
  ld at9 (by rw [window_mid]; exact h)

theorem tap_down {inb : ∀ a, (![o, 0] : Fin 2 → ℕ) a + S1040x512.size a ≤ S4336x512.size a} {hl : A.a10.view.LoadsAt (Rect.unit (s := S4336x512) ![o, 0] S1040x512.size inb).toLoadRect}
    {K : Vec F S1040x512 .bf16 → Prog (TpuEff nD τ sig (Elt F) Λ₀ .tc) α} (ho : 1 ≤ o)
    (h : St c A I y7 y8 xb (xpOf I.x0 x) xn fv ⊢ run c (K (xs I.x0 (o - 1))) Q) :
    St c A I y7 y8 xb (xpOf I.x0 x) xn fv ⊢ run c (Prog.lift (.load A.a10 (Rect.unit (s := S4336x512) ![o, 0] S1040x512.size inb).toLoadRect hl) >>= K) Q :=
  ld at10 (by rw [window_down _ _ _ ho]; exact h)

theorem tap_up {inb : ∀ a, (![o, 0] : Fin 2 → ℕ) a + S1040x512.size a ≤ S4336x512.size a} {hl : A.a11.view.LoadsAt (Rect.unit (s := S4336x512) ![o, 0] S1040x512.size inb).toLoadRect}
    {K : Vec F S1040x512 .bf16 → Prog (TpuEff nD τ sig (Elt F) Λ₀ .tc) α} (ho : o + 1040 ≤ 4335)
    (h : St c A I y7 y8 xb xp (xnOf I.x0 x) fv ⊢ run c (K (xs I.x0 (o + 1))) Q) :
    St c A I y7 y8 xb xp (xnOf I.x0 x) fv ⊢ run c (Prog.lift (.load A.a11 (Rect.unit (s := S4336x512) ![o, 0] S1040x512.size inb).toLoadRect hl) >>= K) Q :=
  ld at11 (by rw [window_up _ _ _ ho]; exact h)

end Taps

section Stores

variable {K : PUnit.{1} → Prog (TpuEff nD τ sig (Elt F) Λ₀ .tc) α}

/-- Clearing the padded image. -/
theorem clear {inb : ∀ a, (![0, 0] : Fin 2 → ℕ) a + S4336x512.size a ≤ S4336x512.size a}
    {hs : (A.a9.access (Rect.unit (s := S4336x512) ![0, 0] S4336x512.size inb)).Stores Finset.univ} {hm}
    (h : St c A I y7 y8 (xbAt I.x0 0) xp xn fv ⊢ run c (K ⟨⟩) Q) :
    St c A I y7 y8 xb xp xn fv ⊢ run c (Prog.lift (.store A.a9 (Rect.unit (s := S4336x512) ![0, 0] S4336x512.size inb) (k0_pay1 (F := F)) Finset.univ hs hm) >>= K) Q :=
  st at9 (by rw [put_zero I.x0]; exact h)

/-- Storing image row `n`. -/
theorem row {n o : ℕ} {inb : ∀ a, (![o, 0] : Fin 2 → ℕ) a + S76x512.size a ≤ S4336x512.size a} {v : FVec F S75x512 .bf16} {sl}
    {hl : A.a9.view.LoadsAt (Rect.unit (s := S4336x512) ![o, 0] S76x512.size inb).toLoadRect}
    {hs : (A.a9.access (Rect.unit (s := S4336x512) ![o, 0] S76x512.size inb)).Stores Finset.univ}
    (hn : n < 50) (ho : o = 168 + 80 * n) (hv : v = rowOf I.x0 n hn)
    (h : St c A I y7 y8 (xbAt I.x0 (n + 1)) xp xn fv ⊢ run c (K ⟨⟩) Q) :
    St c A I y7 y8 (xbAt I.x0 n) xp xn fv ⊢ run c (storeSubelements A.a9 (Rect.unit (s := S4336x512) ![o, 0] S76x512.size inb) (fun old => updateSlice old v ![1, 0] sl) hl hs >>= K) Q :=
  blend at9 (by
    subst ho hv
    have e : put (xbAt I.x0 n) ![168 + 80 * n, 0] S76x512.size (updateSlice (window (xbAt I.x0 n) ![168 + 80 * n, 0] S76x512.size inb) (rowOf I.x0 n hn) ![1, 0] sl) = xbAt I.x0 (n + 1) :=
      (put_blend (N := 4336) (M := 76) (K := 75) (C := 512) (xbAt I.x0 n) (168 + 80 * n) 1 inb sl (rowOf I.x0 n hn)).trans (put_row I.x0 hn)
    rw [e]; exact h)

/-- Storing the two shifted copies. -/
theorem copy_down {inb inb'} {sl}
    {hl : A.a10.view.LoadsAt (Rect.unit (s := S4336x512) ![0, 0] S4336x512.size inb).toLoadRect}
    {hs : (A.a10.access (Rect.unit (s := S4336x512) ![0, 0] S4336x512.size inb)).Stores Finset.univ}
    (h : St c A I y7 y8 xb (xpOf I.x0 xp) xn fv ⊢ run c (K ⟨⟩) Q) :
    St c A I y7 y8 xb xp xn fv ⊢ run c (storeSubelements A.a10 (Rect.unit (s := S4336x512) ![0, 0] S4336x512.size inb)
      (fun old => updateSlice old (k0_pay56 (window (xbAt I.x0 50) ![0, 0] S4335x512.size inb')) ![1, 0] sl) hl hs >>= K) Q :=
  blend at10 (by
    have e : put xp ![0, 0] S4336x512.size (updateSlice (window xp ![0, 0] S4336x512.size inb) (k0_pay56 (window (xbAt I.x0 50) ![0, 0] S4335x512.size inb')) ![1, 0] sl) = xpOf I.x0 xp :=
      (put_blend (N := 4336) (M := 4336) (K := 4335) (C := 512) xp 0 1 inb sl _).trans (put_down I.x0 xp inb')
    rw [e]; exact h)

theorem copy_up {inb inb'} {sl}
    {hl : A.a11.view.LoadsAt (Rect.unit (s := S4336x512) ![0, 0] S4336x512.size inb).toLoadRect}
    {hs : (A.a11.access (Rect.unit (s := S4336x512) ![0, 0] S4336x512.size inb)).Stores Finset.univ}
    (h : St c A I y7 y8 xb xp (xnOf I.x0 xn) fv ⊢ run c (K ⟨⟩) Q) :
    St c A I y7 y8 xb xp xn fv ⊢ run c (storeSubelements A.a11 (Rect.unit (s := S4336x512) ![0, 0] S4336x512.size inb)
      (fun old => updateSlice old (k0_pay57 (window (xbAt I.x0 50) ![1, 0] S4335x512.size inb')) ![0, 0] sl) hl hs >>= K) Q :=
  blend at11 (by
    have e : put xn ![0, 0] S4336x512.size (updateSlice (window xn ![0, 0] S4336x512.size inb) (k0_pay57 (window (xbAt I.x0 50) ![1, 0] S4335x512.size inb')) ![0, 0] sl) = xnOf I.x0 xn :=
      (put_blend (N := 4336) (M := 4336) (K := 4335) (C := 512) xn 0 0 inb sl _).trans (put_up I.x0 xn inb')
    rw [e]; exact h)

/-- Storing row `n` of the features: it begins `d` rows into the 76 rows written. -/
theorem feature {f : Vec F S3750x512 .bf16} {n o d : ℕ} {inb : ∀ a, (![o, 0] : Fin 2 → ℕ) a + S76x512.size a ≤ S3750x512.size a} {v : FVec F S75x512 .bf16} {sl}
    {hl : A.a12.view.LoadsAt (Rect.unit (s := S3750x512) ![o, 0] S76x512.size inb).toLoadRect}
    {hs : (A.a12.access (Rect.unit (s := S3750x512) ![o, 0] S76x512.size inb)).Stores Finset.univ}
    (ho : o + d = 75 * n) (hv : v = ftRow I n)
    (h : St c A I y7 y8 xb xp xn (fvAt I f (n + 1)) ⊢ run c (K ⟨⟩) Q) :
    St c A I y7 y8 xb xp xn (fvAt I f n) ⊢ run c (storeSubelements A.a12 (Rect.unit (s := S3750x512) ![o, 0] S76x512.size inb) (fun old => updateSlice old v ![d, 0] sl) hl hs >>= K) Q :=
  blend at12 (by
    subst hv
    have e : put (fvAt I f n) ![o, 0] S76x512.size (updateSlice (window (fvAt I f n) ![o, 0] S76x512.size inb) (ftRow I n) ![d, 0] sl) = fvAt I f (n + 1) :=
      (put_blend (N := 3750) (M := 76) (K := 75) (C := 512) (fvAt I f n) o d inb sl (ftRow I n)).trans (put_feat I f ho)
    rw [e]; exact h)

/-- Storing an output whole. -/
theorem out_reg {inb : ∀ a, (![0, 0] : Fin 2 → ℕ) a + S36x3750.size a ≤ S36x3750.size a} {w : Vec F S36x3750 .f32}
    {hs : (A.a7.access (Rect.unit (s := S36x3750) ![0, 0] S36x3750.size inb)).Stores Finset.univ} {hm}
    (h : St c A I w y8 xb xp xn fv ⊢ run c (K ⟨⟩) Q) :
    St c A I y7 y8 xb xp xn fv ⊢ run c (Prog.lift (.store A.a7 (Rect.unit (s := S36x3750) ![0, 0] S36x3750.size inb) w Finset.univ hs hm) >>= K) Q :=
  st at7 (by
    have e : put (s := S36x3750) y7 ![0, 0] S36x3750.size w = w := put_whole (N := 36) (C := 3750) y7 w
    rw [e]; exact h)

theorem out_cls {inb : ∀ a, (![0, 0] : Fin 2 → ℕ) a + S18x3750.size a ≤ S18x3750.size a} {w : Vec F S18x3750 .f32}
    {hs : (A.a8.access (Rect.unit (s := S18x3750) ![0, 0] S18x3750.size inb)).Stores Finset.univ} {hm}
    (h : St c A I y7 w xb xp xn fv ⊢ run c (K ⟨⟩) Q) :
    St c A I y7 y8 xb xp xn fv ⊢ run c (Prog.lift (.store A.a8 (Rect.unit (s := S18x3750) ![0, 0] S18x3750.size inb) w Finset.univ hs hm) >>= K) Q :=
  st at8 (by
    have e : put (s := S18x3750) y8 ![0, 0] S18x3750.size w = w := put_whole (N := 18) (C := 3750) y8 w
    rw [e]; exact h)

end Stores

end Cert.KernelIdeal.Body

end
-- ==== Proof.Image.lean ====
/-
  The first half of the body: the padded image is cleared, the fifty rows of the image are stored into it, and the two
  shifted copies are made.
-/
module

public import proofs.«01_k».proof.Proof.Steps

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow RowBuf

variable {F : FTy → Type} [FloatOps F]
variable {c : Dev nD} {A : Bufs} {I : Ins F} {y7 : Vec F S36x3750 .f32} {y8 : Vec F S18x3750 .f32}
variable {xb xp xn : Vec F S4336x512 .bf16} {fv : Vec F S3750x512 .bf16}
variable {α : Type} {Q : α → Res F}

/-- The image is cleared and its first rows stored; the fifth is read. -/
theorem part1_run {K : (Σ' (_ : FVec F S75x512 .bf16), Vec F S75x512 .bf16) → Prog (TpuEff nD τ sig (Elt F) Λ₀ .tc) α}
    (h : ∀ v v', k0_pay7 v = rowOf I.x0 4 (by decide) → St c A I y7 y8 (xbAt I.x0 4) xp xn fv ⊢ run c (K ⟨v, v'⟩) Q) :
    St c A I y7 y8 xb xp xn fv ⊢ run c (k0_part1 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 >>= K) Q := by
  rw [k0_part1_eq_skeleton]; unfold k0_part1_skel
  simp only [bind_assoc, pure_bind]
  refine ld9 ?_
  refine clear ?_
  iterate 4
    refine ld0 ?_
    refine ld9 ?_
    refine row (by decide) rfl rfl ?_
  refine ld0 ?_
  refine ld9 ?_
  exact h _ _ rfl

theorem part2_run {K : PUnit.{1} → Prog (TpuEff nD τ sig (Elt F) Λ₀ .tc) α} {v : FVec F S75x512 .bf16} (hv : k0_pay7 v = rowOf I.x0 4 (by decide)) {v' : Vec F S75x512 .bf16}
    (h : St c A I y7 y8 (xbAt I.x0 10) xp xn fv ⊢ run c (K ⟨⟩) Q) :
    St c A I y7 y8 (xbAt I.x0 4) xp xn fv ⊢ run c (k0_part2 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 v v' >>= K) Q := by
  rw [k0_part2_eq_skeleton]; unfold k0_part2_skel
  simp only [bind_assoc, pure_bind]
  refine row (by decide) rfl hv ?_
  iterate 5
    refine ld0 ?_
    refine ld9 ?_
    refine row (by decide) rfl rfl ?_
  exact h

theorem part3_run {K : FVec F S75x512 .bf16 → Prog (TpuEff nD τ sig (Elt F) Λ₀ .tc) α}
    (h : ∀ v, k0_pay19 v = rowOf I.x0 15 (by decide) → St c A I y7 y8 (xbAt I.x0 15) xp xn fv ⊢ run c (K v) Q) :
    St c A I y7 y8 (xbAt I.x0 10) xp xn fv ⊢ run c (k0_part3 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 >>= K) Q := by
  rw [k0_part3_eq_skeleton]; unfold k0_part3_skel
  simp only [bind_assoc, pure_bind]
  iterate 5
    refine ld0 ?_
    refine ld9 ?_
    refine row (by decide) rfl rfl ?_
  refine ld0 ?_
  exact h _ rfl

theorem part4_run {K : PUnit.{1} → Prog (TpuEff nD τ sig (Elt F) Λ₀ .tc) α} {v : FVec F S75x512 .bf16} (hv : k0_pay19 v = rowOf I.x0 15 (by decide))
    (h : St c A I y7 y8 (xbAt I.x0 21) xp xn fv ⊢ run c (K ⟨⟩) Q) :
    St c A I y7 y8 (xbAt I.x0 15) xp xn fv ⊢ run c (k0_part4 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 v >>= K) Q := by
  rw [k0_part4_eq_skeleton]; unfold k0_part4_skel
  simp only [bind_assoc, pure_bind]
  refine ld9 ?_
  refine row (by decide) rfl hv ?_
  iterate 5
    refine ld0 ?_
    refine ld9 ?_
    refine row (by decide) rfl rfl ?_
  exact h

theorem part5_run {K : FVec F S75x512 .bf16 → Prog (TpuEff nD τ sig (Elt F) Λ₀ .tc) α}
    (h : ∀ v, k0_pay31 v = rowOf I.x0 26 (by decide) → St c A I y7 y8 (xbAt I.x0 26) xp xn fv ⊢ run c (K v) Q) :
    St c A I y7 y8 (xbAt I.x0 21) xp xn fv ⊢ run c (k0_part5 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 >>= K) Q := by
  rw [k0_part5_eq_skeleton]; unfold k0_part5_skel
  simp only [bind_assoc, pure_bind]
  iterate 5
    refine ld0 ?_
    refine ld9 ?_
    refine row (by decide) rfl rfl ?_
  refine ld0 ?_
  exact h _ rfl

theorem part6_run {K : PUnit.{1} → Prog (TpuEff nD τ sig (Elt F) Λ₀ .tc) α} {v : FVec F S75x512 .bf16} (hv : k0_pay31 v = rowOf I.x0 26 (by decide))
    (h : St c A I y7 y8 (xbAt I.x0 32) xp xn fv ⊢ run c (K ⟨⟩) Q) :
    St c A I y7 y8 (xbAt I.x0 26) xp xn fv ⊢ run c (k0_part6 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 v >>= K) Q := by
  rw [k0_part6_eq_skeleton]; unfold k0_part6_skel
  simp only [bind_assoc, pure_bind]
  refine ld9 ?_
  refine row (by decide) rfl hv ?_
  iterate 5
    refine ld0 ?_
    refine ld9 ?_
    refine row (by decide) rfl rfl ?_
  exact h

theorem part7_run {K : FVec F S75x512 .bf16 → Prog (TpuEff nD τ sig (Elt F) Λ₀ .tc) α}
    (h : ∀ v, k0_pay43 v = rowOf I.x0 37 (by decide) → St c A I y7 y8 (xbAt I.x0 37) xp xn fv ⊢ run c (K v) Q) :
    St c A I y7 y8 (xbAt I.x0 32) xp xn fv ⊢ run c (k0_part7 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 >>= K) Q := by
  rw [k0_part7_eq_skeleton]; unfold k0_part7_skel
  simp only [bind_assoc, pure_bind]
  iterate 5
    refine ld0 ?_
    refine ld9 ?_
    refine row (by decide) rfl rfl ?_
  refine ld0 ?_
  exact h _ rfl

theorem part8_run {K : FVec F S75x512 .bf16 → Prog (TpuEff nD τ sig (Elt F) Λ₀ .tc) α} {v : FVec F S75x512 .bf16} (hv : k0_pay43 v = rowOf I.x0 37 (by decide))
    (h : St c A I y7 y8 (xbAt I.x0 42) xp xn fv ⊢ run c (K (rowOf I.x0 42 (by decide))) Q) :
    St c A I y7 y8 (xbAt I.x0 37) xp xn fv ⊢ run c (k0_part8 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 v >>= K) Q := by
  rw [k0_part8_eq_skeleton]; unfold k0_part8_skel
  simp only [bind_assoc, pure_bind]
  refine ld9 ?_
  refine row (by decide) rfl hv ?_
  iterate 4
    refine ld0 ?_
    refine ld9 ?_
    refine row (by decide) rfl rfl ?_
  refine ld0 ?_
  refine ld9 ?_
  exact h

theorem part9_run {K : Vec F S1x75x512 .bf16 → Prog (TpuEff nD τ sig (Elt F) Λ₀ .tc) α}
    (h : ∀ v, k0_pay54 v = rowOf I.x0 48 (by decide) → St c A I y7 y8 (xbAt I.x0 48) xp xn fv ⊢ run c (K v) Q) :
    St c A I y7 y8 (xbAt I.x0 42) xp xn fv ⊢ run c (k0_part9 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (rowOf I.x0 42 (by decide)) >>= K) Q := by
  rw [k0_part9_eq_skeleton]; unfold k0_part9_skel
  simp only [bind_assoc, pure_bind]
  refine row (by decide) rfl rfl ?_
  iterate 5
    refine ld0 ?_
    refine ld9 ?_
    refine row (by decide) rfl rfl ?_
  refine ld0 ?_
  exact h _ rfl

/-- The last two rows are stored, the shifted copies made, and the first slices of the weights read. -/
theorem part10_run {K : (Σ' (_ : FVec F S512x512 .bf16) (_ : FVec F S512x512 .bf16) (_ : FVec F S512x512 .bf16), FVec F S512x512 .bf16) → Prog (TpuEff nD τ sig (Elt F) Λ₀ .tc) α} {v : Vec F S1x75x512 .bf16} (hv : k0_pay54 v = rowOf I.x0 48 (by decide))
    (h : St c A I y7 y8 (xbAt I.x0 50) (xpOf I.x0 xp) (xnOf I.x0 xn) fv ⊢ run c (K ⟨k0_pay58 (window I.x1 ![0, 0, 0] S1x512x512.size inb_S9x512x512_S1x512x512_0_0_0), k0_pay59 (window I.x1 ![1, 0, 0] S1x512x512.size inb_S9x512x512_S1x512x512_1_0_0), k0_pay60 (window I.x1 ![2, 0, 0] S1x512x512.size inb_S9x512x512_S1x512x512_2_0_0), k0_pay61 (window I.x1 ![3, 0, 0] S1x512x512.size inb_S9x512x512_S1x512x512_3_0_0)⟩) Q) :
    St c A I y7 y8 (xbAt I.x0 48) xp xn fv ⊢ run c (k0_part10 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 v >>= K) Q := by
  rw [k0_part10_eq_skeleton]; unfold k0_part10_skel
  simp only [bind_assoc, pure_bind]
  refine ld9 ?_
  refine row (by decide) rfl hv ?_
  iterate 1
    refine ld0 ?_
    refine ld9 ?_
    refine row (by decide) rfl rfl ?_
  refine ld9 ?_
  refine ld10 ?_
  refine copy_down ?_
  refine ld9 ?_
  refine ld11 ?_
  refine copy_up ?_
  iterate 4 refine ld1 ?_
  exact h

end Cert.KernelIdeal.Body

end
-- ==== Proof.Gather.lean ====
/-
  The second half of the body: chunk by chunk the nine taps are read, the features computed, and their valid rows stored
  one after the other.
-/
module

public import proofs.«01_k».proof.Proof.Image

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow RowBuf

variable {F : FTy → Type} [FloatOps F]
variable {c : Dev nD} {A : Bufs} {I : Ins F} {y7 : Vec F S36x3750 .f32} {y8 : Vec F S18x3750 .f32}
variable {xb xp xn : Vec F S4336x512 .bf16} {fv : Vec F S3750x512 .bf16}
variable {α : Type} {Q : α → Res F}

theorem part11_run {K : (Σ' (_ : FVec F S512x4608 .bf16) (_ : FVec F S1040x4608 .bf16), FVec F S1040x512 .f32) → Prog (TpuEff nD τ sig (Elt F) Λ₀ .tc) α}
    (h : St c A I y7 y8 (xbAt I.x0 50) (xpOf I.x0 xp) (xnOf I.x0 xn) (fvAt I fv 0) ⊢ run c (K ⟨wcat I, k0_pay63 (xs I.x0 7) (xs I.x0 8) (xs I.x0 9) (xs I.x0 87) (xs I.x0 88) (xs I.x0 89) (xs I.x0 167) (xs I.x0 168) (xs I.x0 169), constant S1040x512 .f32 0x00000000#32⟩) Q) :
    St c A I y7 y8 (xbAt I.x0 50) (xpOf I.x0 xp) (xnOf I.x0 xn) (fvAt I fv 0) ⊢ run c (k0_part11 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (k0_pay58 (window I.x1 ![0, 0, 0] S1x512x512.size inb_S9x512x512_S1x512x512_0_0_0)) (k0_pay59 (window I.x1 ![1, 0, 0] S1x512x512.size inb_S9x512x512_S1x512x512_1_0_0)) (k0_pay60 (window I.x1 ![2, 0, 0] S1x512x512.size inb_S9x512x512_S1x512x512_2_0_0)) (k0_pay61 (window I.x1 ![3, 0, 0] S1x512x512.size inb_S9x512x512_S1x512x512_3_0_0)) >>= K) Q := by
  rw [k0_part11_eq_skeleton]; unfold k0_part11_skel
  simp only [bind_assoc, pure_bind]
  iterate 5 refine ld1 ?_
  refine tap_down (by decide) ?_
  refine tap_mid ?_
  refine tap_up (by decide) ?_
  refine tap_down (by decide) ?_
  refine tap_mid ?_
  refine tap_up (by decide) ?_
  refine tap_down (by decide) ?_
  refine tap_mid ?_
  refine tap_up (by decide) ?_
  exact h

theorem part12_run {K : (Σ' (_ : FVec F S1040x512 .bf16), FVec F S75x512 .bf16) → Prog (TpuEff nD τ sig (Elt F) Λ₀ .tc) α}
    (h : ∀ v, v = ftRow I 6 → St c A I y7 y8 (xbAt I.x0 50) (xpOf I.x0 xp) (xnOf I.x0 xn) (fvAt I fv 6) ⊢ run c (K ⟨feat I 8, v⟩) Q) :
    St c A I y7 y8 (xbAt I.x0 50) (xpOf I.x0 xp) (xnOf I.x0 xn) (fvAt I fv 0) ⊢ run c (k0_part12 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (wcat I) (k0_pay63 (xs I.x0 7) (xs I.x0 8) (xs I.x0 9) (xs I.x0 87) (xs I.x0 88) (xs I.x0 89) (xs I.x0 167) (xs I.x0 168) (xs I.x0 169)) (constant S1040x512 .f32 0x00000000#32) >>= K) Q := by
  rw [k0_part12_eq_skeleton]; unfold k0_part12_skel
  simp only [bind_assoc, pure_bind]
  refine ld2 ?_
  iterate 6
    refine ld12 ?_
    refine feature rfl rfl ?_
  refine ld12 ?_
  exact h _ rfl

theorem part13_run {K : (Σ' (_ : Vec F S1040x512 .bf16) (_ : Vec F S1040x512 .bf16) (_ : Vec F S1040x512 .bf16) (_ : Vec F S1040x512 .bf16) (_ : Vec F S1040x512 .bf16) (_ : Vec F S1040x512 .bf16) (_ : Vec F S1040x512 .bf16), Vec F S1040x512 .bf16) → Prog (TpuEff nD τ sig (Elt F) Λ₀ .tc) α}
    (h : St c A I y7 y8 (xbAt I.x0 50) (xpOf I.x0 xp) (xnOf I.x0 xn) (fvAt I fv 12) ⊢ run c (K ⟨xs I.x0 1047, xs I.x0 1048, xs I.x0 1049, xs I.x0 1127, xs I.x0 1128, xs I.x0 1129, xs I.x0 1207, xs I.x0 1208⟩) Q) :
    St c A I y7 y8 (xbAt I.x0 50) (xpOf I.x0 xp) (xnOf I.x0 xn) (fvAt I fv 6) ⊢ run c (k0_part13 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (feat I 8) (ftRow I 6) >>= K) Q := by
  rw [k0_part13_eq_skeleton]; unfold k0_part13_skel
  simp only [bind_assoc, pure_bind]
  refine feature rfl rfl ?_
  iterate 5
    refine ld12 ?_
    refine feature rfl rfl ?_
  refine tap_down (by decide) ?_
  refine tap_mid ?_
  refine tap_up (by decide) ?_
  refine tap_down (by decide) ?_
  refine tap_mid ?_
  refine tap_up (by decide) ?_
  refine tap_down (by decide) ?_
  refine tap_mid ?_
  exact h

theorem part14_run {K : (Σ' (_ : FVec F S1040x512 .bf16), FVec F S75x512 .bf16) → Prog (TpuEff nD τ sig (Elt F) Λ₀ .tc) α}
    (h : ∀ v, k0_pay85 v = ftRow I 18 → St c A I y7 y8 (xbAt I.x0 50) (xpOf I.x0 xp) (xnOf I.x0 xn) (fvAt I fv 18) ⊢ run c (K ⟨feat I 1048, v⟩) Q) :
    St c A I y7 y8 (xbAt I.x0 50) (xpOf I.x0 xp) (xnOf I.x0 xn) (fvAt I fv 12) ⊢ run c (k0_part14 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (wcat I) (xs I.x0 1047) (xs I.x0 1048) (xs I.x0 1049) (xs I.x0 1127) (xs I.x0 1128) (xs I.x0 1129) (xs I.x0 1207) (xs I.x0 1208) >>= K) Q := by
  rw [k0_part14_eq_skeleton]; unfold k0_part14_skel
  simp only [bind_assoc, pure_bind]
  refine tap_up (by decide) ?_
  refine ld2 ?_
  iterate 6
    refine ld12 ?_
    refine feature rfl rfl ?_
  exact h _ rfl

theorem part15_run {K : (Σ' (_ : Vec F S1040x512 .bf16) (_ : Vec F S1040x512 .bf16) (_ : Vec F S1040x512 .bf16), Vec F S1040x512 .bf16) → Prog (TpuEff nD τ sig (Elt F) Λ₀ .tc) α} {v : FVec F S75x512 .bf16} (hv : k0_pay85 v = ftRow I 18)
    (h : St c A I y7 y8 (xbAt I.x0 50) (xpOf I.x0 xp) (xnOf I.x0 xn) (fvAt I fv 25) ⊢ run c (K ⟨xs I.x0 2087, xs I.x0 2088, xs I.x0 2089, xs I.x0 2167⟩) Q) :
    St c A I y7 y8 (xbAt I.x0 50) (xpOf I.x0 xp) (xnOf I.x0 xn) (fvAt I fv 18) ⊢ run c (k0_part15 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (feat I 1048) v >>= K) Q := by
  rw [k0_part15_eq_skeleton]; unfold k0_part15_skel
  simp only [bind_assoc, pure_bind]
  refine ld12 ?_
  refine feature rfl hv ?_
  iterate 6
    refine ld12 ?_
    refine feature rfl rfl ?_
  refine tap_down (by decide) ?_
  refine tap_mid ?_
  refine tap_up (by decide) ?_
  refine tap_down (by decide) ?_
  exact h

theorem part16_run {K : (Σ' (_ : FVec F S1040x512 .bf16), FVec F S75x512 .bf16) → Prog (TpuEff nD τ sig (Elt F) Λ₀ .tc) α}
    (h : ∀ v, k0_pay98 v = ftRow I 29 → St c A I y7 y8 (xbAt I.x0 50) (xpOf I.x0 xp) (xnOf I.x0 xn) (fvAt I fv 29) ⊢ run c (K ⟨feat I 2088, v⟩) Q) :
    St c A I y7 y8 (xbAt I.x0 50) (xpOf I.x0 xp) (xnOf I.x0 xn) (fvAt I fv 25) ⊢ run c (k0_part16 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (wcat I) (xs I.x0 2087) (xs I.x0 2088) (xs I.x0 2089) (xs I.x0 2167) >>= K) Q := by
  rw [k0_part16_eq_skeleton]; unfold k0_part16_skel
  simp only [bind_assoc, pure_bind]
  refine tap_mid ?_
  refine tap_up (by decide) ?_
  refine tap_down (by decide) ?_
  refine tap_mid ?_
  refine tap_up (by decide) ?_
  refine ld2 ?_
  iterate 4
    refine ld12 ?_
    refine feature rfl rfl ?_
  exact h _ rfl

theorem part17_run {K : PUnit.{1} → Prog (TpuEff nD τ sig (Elt F) Λ₀ .tc) α} {v : FVec F S75x512 .bf16} (hv : k0_pay98 v = ftRow I 29)
    (h : St c A I y7 y8 (xbAt I.x0 50) (xpOf I.x0 xp) (xnOf I.x0 xn) (fvAt I fv 38) ⊢ run c (K ⟨⟩) Q) :
    St c A I y7 y8 (xbAt I.x0 50) (xpOf I.x0 xp) (xnOf I.x0 xn) (fvAt I fv 29) ⊢ run c (k0_part17 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (feat I 2088) v >>= K) Q := by
  rw [k0_part17_eq_skeleton]; unfold k0_part17_skel
  simp only [bind_assoc, pure_bind]
  refine ld12 ?_
  refine feature rfl hv ?_
  iterate 8
    refine ld12 ?_
    refine feature rfl rfl ?_
  exact h

theorem part18_run {K : (Σ' (_ : FVec F S1040x512 .bf16), FVec F S75x512 .bf16) → Prog (TpuEff nD τ sig (Elt F) Λ₀ .tc) α}
    (h : ∀ v, k0_pay111 v = ftRow I 40 → St c A I y7 y8 (xbAt I.x0 50) (xpOf I.x0 xp) (xnOf I.x0 xn) (fvAt I fv 40) ⊢ run c (K ⟨feat I 3128, v⟩) Q) :
    St c A I y7 y8 (xbAt I.x0 50) (xpOf I.x0 xp) (xnOf I.x0 xn) (fvAt I fv 38) ⊢ run c (k0_part18 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (wcat I) >>= K) Q := by
  rw [k0_part18_eq_skeleton]; unfold k0_part18_skel
  simp only [bind_assoc, pure_bind]
  refine tap_down (by decide) ?_
  refine tap_mid ?_
  refine tap_up (by decide) ?_
  refine tap_down (by decide) ?_
  refine tap_mid ?_
  refine tap_up (by decide) ?_
  refine tap_down (by decide) ?_
  refine tap_mid ?_
  refine tap_up (by decide) ?_
  refine ld2 ?_
  iterate 2
    refine ld12 ?_
    refine feature rfl rfl ?_
  refine ld12 ?_
  exact h _ rfl

theorem part19_run {K : FVec F S75x512 .bf16 → Prog (TpuEff nD τ sig (Elt F) Λ₀ .tc) α} {v : FVec F S75x512 .bf16} (hv : k0_pay111 v = ftRow I 40)
    (h : ∀ v, k0_pay121 v = ftRow I 49 → St c A I y7 y8 (xbAt I.x0 50) (xpOf I.x0 xp) (xnOf I.x0 xn) (fvAt I fv 49) ⊢ run c (K v) Q) :
    St c A I y7 y8 (xbAt I.x0 50) (xpOf I.x0 xp) (xnOf I.x0 xn) (fvAt I fv 40) ⊢ run c (k0_part19 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 (feat I 3128) v >>= K) Q := by
  rw [k0_part19_eq_skeleton]; unfold k0_part19_skel
  simp only [bind_assoc, pure_bind]
  refine feature rfl hv ?_
  iterate 8
    refine ld12 ?_
    refine feature rfl rfl ?_
  exact h _ rfl

end Cert.KernelIdeal.Body

end
-- ==== Proof.Body.lean ====
/-
  The whole body: its parts in order, and what it leaves in the two outputs.
-/
module

public import proofs.«01_k».proof.Proof.Gather

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow RowBuf

variable {F : FTy → Type} [FloatOps F]
variable {c : Dev nD} {A : Bufs} {I : Ins F} {y7 : Vec F S36x3750 .f32} {y8 : Vec F S18x3750 .f32}
variable {xb xp xn : Vec F S4336x512 .bf16} {fv : Vec F S3750x512 .bf16}
variable {α : Type} {Q : α → Res F}

/-- The convolution's output and the two heads' parameters as the kernel combines them: the box deltas, -/
def outReg (I : Ins F) : Vec F S36x3750 .f32 :=
  k0_pay123 (window I.x3 ![0, 0] S144x128.size inb_S144x128_S144x128_0_0) (window I.x4 ![0, 0] S72x128.size inb_S72x128_S72x128_0_0)
    (window (featMap I) ![0, 0] S3750x512.size inb_S3750x512_S3750x512_0_0)
    (window I.x5 ![0, 0] S1x36.size inb_S1x36_S1x36_0_0) (window I.x6 ![0, 0] S1x18.size inb_S1x18_S1x18_0_0)

/-- and the class scores. -/
def outCls (I : Ins F) : Vec F S18x3750 .f32 :=
  k0_pay124 (window I.x3 ![0, 0] S144x128.size inb_S144x128_S144x128_0_0) (window I.x4 ![0, 0] S72x128.size inb_S72x128_S72x128_0_0)
    (window (featMap I) ![0, 0] S3750x512.size inb_S3750x512_S3750x512_0_0)
    (window I.x5 ![0, 0] S1x36.size inb_S1x36_S1x36_0_0) (window I.x6 ![0, 0] S1x18.size inb_S1x18_S1x18_0_0)

theorem part20_run {K : FVec F S18x3750 .f32 → Prog (TpuEff nD τ sig (Elt F) Λ₀ .tc) α}
    (h : St c A I (outReg I) y8 (xbAt I.x0 50) (xpOf I.x0 xp) (xnOf I.x0 xn) (featMap I) ⊢ run c (K (outCls I)) Q) :
    St c A I y7 y8 xb xp xn fv ⊢ run c (k0_part20 A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 >>= K) Q := by
  rw [k0_part20_eq_skeleton]; unfold k0_part20_skel
  simp only [bind_assoc, pure_bind]
  refine part1_run fun v1 v2 e1 => ?_
  refine part2_run e1 ?_
  refine part3_run fun v3 e3 => ?_
  refine part4_run e3 ?_
  refine part5_run fun v5 e5 => ?_
  refine part6_run e5 ?_
  refine part7_run fun v7 e7 => ?_
  refine part8_run e7 ?_
  refine part9_run fun v9 e9 => ?_
  refine part10_run e9 ?_
  rw [← fvAt_zero I fv]
  refine part11_run ?_
  refine part12_run fun v12 e12 => ?_
  subst e12
  refine part13_run ?_
  refine part14_run fun v14 e14 => ?_
  refine part15_run e14 ?_
  refine part16_run fun v16 e16 => ?_
  refine part17_run e16 ?_
  refine part18_run fun v18 e18 => ?_
  refine part19_run e18 fun v19 e19 => ?_
  refine ld12 ?_
  refine feature rfl e19 ?_
  rw [show fvAt I fv (49 + 1) = featMap I from fvAt_all I fv]
  refine ld3 ?_
  refine ld4 ?_
  refine ld12 ?_
  refine ld5 ?_
  refine ld6 ?_
  refine ld7 ?_
  refine out_reg ?_
  exact h

/-- The body from any contents of the outputs and the scratch buffers. -/
theorem kernel_run {Q : PUnit.{1} → Res F}
    (h : St c A I (outReg I) (outCls I) (xbAt I.x0 50) (xpOf I.x0 xp) (xnOf I.x0 xn) (featMap I) ⊢ Q ⟨⟩) :
    St c A I y7 y8 xb xp xn fv ⊢ run c (cc0__rpn_kernel A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12) Q := by
  rw [cc0__rpn_kernel_eq_skeleton]; unfold cc0__rpn_kernel_skel
  refine part20_run ?_
  refine ld8 ?_
  refine out_cls ?_
  exact h.trans fupd_intro

/-- The body on whole staging memrefs, the inputs' at `I` and the outputs' and the scratch buffers' at anything: the
    inputs are left as they were, the outputs at `outReg` and `outCls`. -/
theorem sound_kernel (c : Dev nD) (arg0 : Memref sig .tc .vmem S50x75x512 .bf16) (harg0 : arg0.IsWhole) (arg1 : Memref sig .tc .vmem S9x512x512 .f32) (harg1 : arg1.IsWhole) (arg2 : Memref sig .tc .vmem S1x512 .f32) (harg2 : arg2.IsWhole) (arg3 : Memref sig .tc .vmem S144x128 .f32) (harg3 : arg3.IsWhole) (arg4 : Memref sig .tc .vmem S72x128 .f32) (harg4 : arg4.IsWhole) (arg5 : Memref sig .tc .vmem S1x36 .f32) (harg5 : arg5.IsWhole) (arg6 : Memref sig .tc .vmem S1x18 .f32) (harg6 : arg6.IsWhole) (arg7 : Memref sig .tc .vmem S36x3750 .f32) (harg7 : arg7.IsWhole) (arg8 : Memref sig .tc .vmem S18x3750 .f32) (harg8 : arg8.IsWhole) (arg9 : Memref sig .tc .vmem S4336x512 .bf16) (harg9 : arg9.IsWhole) (arg10 : Memref sig .tc .vmem S4336x512 .bf16) (harg10 : arg10.IsWhole) (arg11 : Memref sig .tc .vmem S4336x512 .bf16) (harg11 : arg11.IsWhole) (arg12 : Memref sig .tc .vmem S3750x512 .bf16) (harg12 : arg12.IsWhole)
    (I : Ins F) (K : PUnit.{1} → Res F) :
    iprop(owns (c : Thread nD τ) arg0 fullShare I.x0 ∗ owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare I.x0 ∗ owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare (outReg I) ∗ owns (c : Thread nD τ) arg8 fullShare (outCls I) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ run c (cc0__rpn_kernel arg0 harg0 arg1 harg1 arg2 harg2 arg3 harg3 arg4 harg4 arg5 harg5 arg6 harg6 arg7 harg7 arg8 harg8 arg9 harg9 arg10 harg10 arg11 harg11 arg12 harg12) K := by
  iintro ⟨H0, H1, H2, H3, H4, H5, H6, ⟨%d7, H7⟩, ⟨%d8, H8⟩, ⟨%d9, H9⟩, ⟨%d10, H10⟩, ⟨%d11, H11⟩, ⟨%d12, H12⟩, Hk⟩
  iapply wp_wand_r
  isplitr [Hk]
  · iapply (kernel_run (c := c) (A := ⟨arg0, harg0, arg1, harg1, arg2, harg2, arg3, harg3, arg4, harg4, arg5, harg5, arg6, harg6, arg7, harg7, arg8, harg8, arg9, harg9, arg10, harg10, arg11, harg11, arg12, harg12⟩) (I := I) (y7 := d7) (y8 := d8) (xb := d9) (xp := d10) (xn := d11) (fv := d12)
      (Q := fun _ => St c ⟨arg0, harg0, arg1, harg1, arg2, harg2, arg3, harg3, arg4, harg4, arg5, harg5, arg6, harg6, arg7, harg7, arg8, harg8, arg9, harg9, arg10, harg10, arg11, harg11, arg12, harg12⟩ I (outReg I) (outCls I) (xbAt I.x0 50) (xpOf I.x0 d10) (xnOf I.x0 d11) (featMap I)) .rfl)
    unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u H
  unfold St
  icases H with ⟨H0, H1, H2, H3, H4, H5, H6, H7, H8, H9, H10, H11, H12⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

end Cert.KernelIdeal.Body

end
-- ==== Proof.Launch.lean ====
/-
  The launch: the body's triple put into the pipeline's obligation, the run of @main, and the frame claim.
-/
module

public import proofs.«01_k».proof.Proof.Body
public import Idealize.ShloMosaic.Lib.Claim
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The blocks the body finds in its seven input windows. -/
def insAt (c : Dev nD) (t : Fin cfg0.N) : Ins F :=
  ⟨iblk m c 0 t, iblk m c 1 t, iblk m c 2 t, iblk m c 3 t, iblk m c 4 t, iblk m c 5 t, iblk m c 6 t⟩

/-- The pipeline's proof data: each input's buffer keeps its block, each output's ends at the body's value of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outReg (insAt m c t)
    | ⟨8, _⟩ => outCls (insAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outReg (insAt m c t) := by dsimp only [dats]
theorem after0_8 (c : Dev nD) (t : Fin cfg0.N) : (dats m 0 c).after 8 t = outCls (insAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The invariant spelt out: the four scratch buffers at anything and the generator register. -/
theorem rest_eq (c : Dev nD) :
    (Pipeline.ΦA spec0 c : Res F) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, -/
def bodyPre (c : Dev nD) (t : Fin cfg0.N) : Res F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : Res F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ run c (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, rest_eq,
    after0_0, after0_1, after0_2, after0_3, after0_4, after0_5, after0_6, after0_7, after0_8]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c _ _ _ _ _ _ _ _ _ _ _ _ _ _ _ _ _ _ _ _ _ _ _ _ _ _ (insAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitr [Hg]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The launch: every run ends with the arrays as the pipeline's data say and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Body

end
-- ==== Proof.Chunk.lean ====
/-
  A chunk of features over the extended reals: at each place, the sum over the nine taps of the products with the
  weights' slices, plus the bias, clamped at zero.
-/
module

public import proofs.«01_k».proof.Proof.Features
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe
open VecWindow RowBuf

theorem inbTap (t : Fin 9) : ∀ a : Fin 3, (![t.val, 0, 0] : Fin 3 → ℕ) a + S1x512x512.size a ≤ S9x512x512.size a := fun a => by
  have := t.isLt
  match a with
  | ⟨0, _⟩ => show t.val + 1 ≤ 9; omega
  | ⟨1, _⟩ => show 0 + 512 ≤ 512; omega
  | ⟨2, _⟩ => show 0 + 512 ≤ 512; omega

/-- Nine pieces of 512 laid one after the other, -/
def stack (f : Fin 9 → Fin 512 → EReal) (x : Fin 4608) : EReal :=
  if h : x.val < 512 then f 0 ⟨x.val, h⟩
  else if h : x.val - 512 < 512 then f 1 ⟨x.val - 512, h⟩
  else if h : x.val - 512 - 512 < 512 then f 2 ⟨x.val - 512 - 512, h⟩
  else if h : x.val - 512 - 512 - 512 < 512 then f 3 ⟨x.val - 512 - 512 - 512, h⟩
  else if h : x.val - 512 - 512 - 512 - 512 < 512 then f 4 ⟨x.val - 512 - 512 - 512 - 512, h⟩
  else if h : x.val - 512 - 512 - 512 - 512 - 512 < 512 then f 5 ⟨x.val - 512 - 512 - 512 - 512 - 512, h⟩
  else if h : x.val - 512 - 512 - 512 - 512 - 512 - 512 < 512 then f 6 ⟨x.val - 512 - 512 - 512 - 512 - 512 - 512, h⟩
  else if h : x.val - 512 - 512 - 512 - 512 - 512 - 512 - 512 < 512 then f 7 ⟨x.val - 512 - 512 - 512 - 512 - 512 - 512 - 512, h⟩
  else f 8 ⟨x.val - 512 - 512 - 512 - 512 - 512 - 512 - 512 - 512, by have := x.isLt; omega⟩

/-- read back piece by piece. -/
theorem stack_piece (f : Fin 9 → Fin 512 → EReal) (t : Fin 9) (k : Fin 512) (x : Fin 4608) (hx : x.val = t.val * 512 + k.val) :
    stack f x = f t k := by
  have hk := k.isLt
  have ht := t.isLt
  unfold stack
  split_ifs <;>
  · refine congr (congrArg f (Fin.ext ?_)) (Fin.ext ?_)
    · show _ = t.val
      simp only [Fin.isValue, Fin.val_zero, Fin.val_one, Fin.val_two, Fin.coe_ofNat_eq_mod]
      omega
    · dsimp only
      omega

theorem sum_stack (f g : Fin 9 → Fin 512 → EReal) :
    ∑ x : Fin 4608, stack f x * stack g x = ∑ t : Fin 9, ∑ k : Fin 512, f t k * g t k := by
  rw [Fin.sum_univ_tiles 9 512 rfl]
  refine Finset.sum_congr rfl fun t _ => Finset.sum_congr rfl fun k _ => ?_
  rw [stack_piece f t k _ rfl, stack_piece g t k _ rfl]

/-- The product with the nine slices side by side is the sum of nine products. -/
theorem chunk_at (v : Fin 9 → Vec Ideal S1040x512 .bf16) (w : Fin 9 → Vec Ideal S1x512x512 .f32) (b : Vec Ideal S1x512 .f32) (i : Fin 1040) (o : Fin 512) :
    k0_pay77 (k0_pay62 (k0_pay58 (w 0)) (k0_pay59 (w 1)) (k0_pay60 (w 2)) (k0_pay61 (w 3)) (w 4) (w 5) (w 6) (w 7) (w 8))
        (v 0) (v 1) (v 2) (v 3) (v 4) (v 5) (v 6) (v 7) (v 8) b (ix2 i o)
      = max ((∑ t : Fin 9, ∑ k : Fin 512, v t (ix2 i k) * w t (ix3 0 o k)) + b (ix2 0 o)) (0 : EReal) := by
  rw [← sum_stack (fun t k => v t (ix2 i k)) (fun t k => w t (ix3 0 o k))]
  pointwise [k0_pay77, k0_pay62, k0_pay58, k0_pay59, k0_pay60, k0_pay61]
  rfl

/-- The chunk of features whose taps begin at row `r` of the padded image, read at row `i` and channel `o`. -/
theorem feat_at (I : Ins Ideal) (r : ℕ) (hr : 1 ≤ r) (i : Fin 1040) (o : Fin 512) :
    feat I r (ix2 i o)
      = max ((∑ t : Fin 9, ∑ k : Fin 512, (xval I.x0 50 (r - 1 + 80 * (t.val / 3) + t.val % 3 + i.val) k : EReal) * I.x1 (ix3 t o k)) + I.x2 (ix2 0 o)) (0 : EReal) := by
  refine Eq.trans ?_ ((chunk_at (fun t => xs I.x0 (r - 1 + 80 * (t.val / 3) + t.val % 3))
    (fun t => window I.x1 ![t.val, 0, 0] S1x512x512.size (inbTap t)) (window I.x2 ![0, 0] S1x512.size inb_S1x512_S1x512_0_0) i o).trans ?_)
  · obtain ⟨r, rfl⟩ : ∃ r', r = r' + 1 := ⟨r - 1, by omega⟩
    have e : ∀ a b : ℕ, a = b → xs I.x0 a = xs I.x0 b := fun a b h => by rw [h]
    show k0_pay77 _ _ _ _ _ _ _ _ _ _ _ _ = k0_pay77 _ _ _ _ _ _ _ _ _ _ _ _
    rw [e (r + 1 + 80 - 1) (r + 80) (by omega), e (r + 1 + 160 - 1) (r + 160) (by omega),
      e (r + 1 + 80) (r + 80 + 1) (by omega), e (r + 1 + 160) (r + 160 + 1) (by omega)]
    rfl
  · have ew : ∀ (t : Fin 9) (k : Fin 512), window (s := S9x512x512) I.x1 ![t.val, 0, 0] S1x512x512.size (inbTap t) (ix3 0 o k) = I.x1 (ix3 t o k) := fun t k => by
      refine congrArg I.x1 ?_
      funext a
      match a with
      | ⟨0, _⟩ => exact Fin.ext (show t.val + 1 * 0 = t.val by omega)
      | ⟨1, _⟩ => exact Fin.ext (show 0 + 1 * o.val = o.val by omega)
      | ⟨2, _⟩ => exact Fin.ext (show 0 + 1 * k.val = k.val by omega)
    have eb : window (s := S1x512) I.x2 ![0, 0] S1x512.size inb_S1x512_S1x512_0_0 (ix2 0 o) = I.x2 (ix2 0 o) := by
      refine congrArg I.x2 ?_
      funext a
      match a with
      | ⟨0, _⟩ => rfl
      | ⟨1, _⟩ => exact Fin.ext (show 0 + 1 * o.val = o.val by omega)
    rw [eb]
    refine congrArg (fun s : EReal => max (s + I.x2 (ix2 0 o)) 0) (Finset.sum_congr rfl fun t _ => Finset.sum_congr rfl fun k _ => ?_)
    rw [ew]
    rfl

end Cert.KernelIdeal.Body

end
-- ==== Proof.Heads.lean ====
/-
  The values of the two outputs over the extended reals, as functions of the arguments: the convolution's activations
  (`act`), and the two heads' products with them.
-/
module

public import proofs.«01_k».proof.Proof.Chunk
public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe
open VecWindow RowBuf

variable (X : FVec Ideal S1x512x50x75 .f32) (W : FVec Ideal S512x512x3x3 .f32) (b : FVec Ideal S512 .f32)
variable (wc : FVec Ideal S18x512x1x1 .f32) (bc : FVec Ideal S18 .f32) (wr : FVec Ideal S36x512x1x1 .f32) (br : FVec Ideal S36 .f32)

/-- What the operations before the kernel hand it. -/
def insOf : Ins Ideal where
  x0 := truncf .bf16 (transpose S50x75x512 [1, 2, 0] (shapeCast S512x50x75 X shapeCasts_S1x512x50x75_S512x50x75) transposes_S512x50x75_S50x75x512_1_2_0) bitsLt_bf16_f32
  x1 := shapeCast S9x512x512 (transpose S3x3x512x512 [2, 3, 0, 1] W transposes_S512x512x3x3_S3x3x512x512_2_3_0_1) shapeCasts_S3x3x512x512_S9x512x512
  x2 := shapeCast S1x512 b shapeCasts_S512_S1x512
  x3 := shapeCast S144x128 wr shapeCasts_S36x512x1x1_S144x128
  x4 := shapeCast S72x128 wc shapeCasts_S18x512x1x1_S72x128
  x5 := shapeCast S1x36 br shapeCasts_S36_S1x36
  x6 := shapeCast S1x18 bc shapeCasts_S18_S1x18

/-- Channel `k` of the image at row `a` and column `c`, counted with one row and one column of zeros around it. -/
def px (k : Fin 512) (a c : ℕ) : EReal :=
  if h : 1 ≤ a ∧ a - 1 < 50 ∧ 1 ≤ c ∧ c - 1 < 75 then X (ix4 0 k ⟨a - 1, h.2.1⟩ ⟨c - 1, h.2.2.2⟩) else 0

/-- The activation of channel `o` at row `y` and column `x`. -/
def act (o : Fin 512) (y x : ℕ) : EReal :=
  max ((∑ t : Fin 9, ∑ k : Fin 512, px X k (y + t.val / 3) (x + t.val % 3)
    * W (ix4 o k ⟨t.val / 3, by omega⟩ ⟨t.val % 3, by omega⟩)) + b (ix1 o)) 0

theorem image_at (y : Fin 50) (x : Fin 75) (k : Fin 512) : (insOf X W b wc bc wr br).x0 (ix3 y x k) = X (ix4 0 k y x) := by
  pointwise [insOf]

theorem weight_at (t : Fin 9) (o k : Fin 512) :
    (insOf X W b wc bc wr br).x1 (ix3 t o k) = W (ix4 o k ⟨t.val / 3, by omega⟩ ⟨t.val % 3, by omega⟩) := by
  pointwise [insOf]

theorem bias_at (o : Fin 512) : (insOf X W b wc bc wr br).x2 (ix2 0 o) = b (ix1 o) := by
  pointwise [insOf]

/-- The padded image of the kernel is the image with zeros around it. -/
theorem xval_at (a c : ℕ) (ha : a ≤ 51) (hc : c ≤ 76) (k : Fin 512) (r : ℕ) (hr : r = 88 + 80 * a + c) :
    xval (insOf X W b wc bc wr br).x0 50 r k = px X k a c := by
  subst hr
  unfold xval px
  by_cases h : 1 ≤ a ∧ a - 1 < 50 ∧ 1 ≤ c ∧ c - 1 < 75
  · rw [dif_pos h, dif_pos (by omega), image_at]
    have e1 : (88 + 80 * a + c - 169) / 80 = a - 1 := by omega
    have e2 : (88 + 80 * a + c - 169) % 80 = c - 1 := by omega
    refine congrArg X ?_
    funext z
    match z with
    | ⟨0, _⟩ => rfl
    | ⟨1, _⟩ => rfl
    | ⟨2, _⟩ => exact Fin.ext e1
    | ⟨3, _⟩ => exact Fin.ext e2
  · rw [dif_neg h, dif_neg (by omega)]
    pointwise [zc]

/-- The feature map is the activations, row after row. -/
theorem featMap_at (p : Fin 3750) (o : Fin 512) :
    featMap (insOf X W b wc bc wr br) (ix2 p o) = act X W b o (p.val / 75) (p.val % 75) := by
  have hp := p.isLt
  have e : featMap (insOf X W b wc bc wr br) (ix2 p o)
      = feat (insOf X W b wc bc wr br) (8 + 1040 * ((p.val / 75 + 1) / 13)) (ix2 ⟨1 + 80 * ((p.val / 75 + 1) % 13) + p.val % 75, by omega⟩ o) := by
    show ftRow _ (p.val / 75) (ix2 ⟨p.val % 75, _⟩ o) = _
    unfold ftRow
    rw [shapeCast_self]
    refine congrArg (feat _ _) ?_
    funext a
    match a with
    | ⟨0, _⟩ => rfl
    | ⟨1, _⟩ => exact Fin.ext (show 0 + o.val = o.val by omega)
  rw [e, feat_at _ _ (by omega)]
  unfold act
  rw [bias_at]
  refine congrArg (fun s : EReal => max (s + b (ix1 o)) 0) (Finset.sum_congr rfl fun t _ => Finset.sum_congr rfl fun k _ => ?_)
  have ht := t.isLt
  rw [weight_at, xval_at X W b wc bc wr br (p.val / 75 + t.val / 3) (p.val % 75 + t.val % 3) (by omega) (by omega) k _ (by dsimp only; omega)]

theorem whole_window {α : Type} {N C : ℕ} (x : (Shape.mk 2 ![N, C]).Idx → α) (inb) : window (s := Shape.mk 2 ![N, C]) x ![0, 0] ![N, C] inb = x := by
  funext y
  obtain ⟨i, k, rfl⟩ : ∃ (i : Fin N) (k : Fin C), y = ix2 i k := ⟨_, _, eq_ix2 y⟩
  refine (window_rows x 0 inb i k).trans (congrArg (fun a => x (ix2 a k)) (Fin.ext (show 0 + i.val = i.val by omega)))

/-- The box head. -/
theorem reg_pay (w3 : FVec Ideal S144x128 .f32) (w4 : FVec Ideal S72x128 .f32) (fv : FVec Ideal S3750x512 .bf16) (w5 : FVec Ideal S1x36 .f32) (w6 : FVec Ideal S1x18 .f32) (o : Fin 36) (p : Fin 3750) :
    k0_pay123 (F := Ideal) w3 w4 fv w5 w6 (ix2 o p) = (∑ k : Fin 512, shapeCast S36x512 w3 shapeCasts_S144x128_S36x512 (ix2 o k) * fv (ix2 p k) : EReal) + w5 (ix2 0 o) := by
  pointwise [k0_pay123, k0_pay122]

/-- The class head. -/
theorem cls_pay (w3 : FVec Ideal S144x128 .f32) (w4 : FVec Ideal S72x128 .f32) (fv : FVec Ideal S3750x512 .bf16) (w5 : FVec Ideal S1x36 .f32) (w6 : FVec Ideal S1x18 .f32) (o : Fin 18) (p : Fin 3750) :
    k0_pay124 (F := Ideal) w3 w4 fv w5 w6 (ix2 o p) = (∑ k : Fin 512, shapeCast S18x512 w4 shapeCasts_S72x128_S18x512 (ix2 o k) * fv (ix2 p k) : EReal) + w6 (ix2 0 o) := by
  pointwise [k0_pay124, k0_pay122]

/-- The box head's value of channel `o` at position `p` of the image. -/
def regVal (o : Fin 36) (p : Fin 3750) : EReal :=
  (∑ k : Fin 512, wr (ix4 o k 0 0) * act X W b k (p.val / 75) (p.val % 75)) + br (ix1 o)

/-- The class head's value of channel `o` at position `p` of the image. -/
def clsVal (o : Fin 18) (p : Fin 3750) : EReal :=
  (∑ k : Fin 512, wc (ix4 o k 0 0) * act X W b k (p.val / 75) (p.val % 75)) + bc (ix1 o)

theorem outReg_at (o : Fin 36) (p : Fin 3750) : outReg (insOf X W b wc bc wr br) (ix2 o p) = regVal X W b wr br o p := by
  unfold outReg
  rw [whole_window, whole_window, whole_window, whole_window, whole_window, reg_pay]
  unfold regVal
  have e5 : (insOf X W b wc bc wr br).x5 (ix2 0 o) = br (ix1 o) := by pointwise [insOf]
  have e3 (k : Fin 512) : shapeCast S36x512 (insOf X W b wc bc wr br).x3 shapeCasts_S144x128_S36x512 (ix2 o k) = wr (ix4 o k 0 0) := by
    pointwise [insOf]
  rw [e5]
  refine congrArg (fun s : EReal => s + br (ix1 o)) (Finset.sum_congr rfl fun k _ => ?_)
  rw [e3, featMap_at]

theorem outCls_at (o : Fin 18) (p : Fin 3750) : outCls (insOf X W b wc bc wr br) (ix2 o p) = clsVal X W b wc bc o p := by
  unfold outCls
  rw [whole_window, whole_window, whole_window, whole_window, whole_window, cls_pay]
  unfold clsVal
  have e6 : (insOf X W b wc bc wr br).x6 (ix2 0 o) = bc (ix1 o) := by pointwise [insOf]
  have e4 (k : Fin 512) : shapeCast S18x512 (insOf X W b wc bc wr br).x4 shapeCasts_S72x128_S18x512 (ix2 o k) = wc (ix4 o k 0 0) := by
    pointwise [insOf]
  rw [e6]
  refine congrArg (fun s : EReal => s + bc (ix1 o)) (Finset.sum_congr rfl fun k _ => ?_)
  rw [e4, featMap_at]

/-- The box head as the program returns it: position after position, channel after channel. -/
theorem reg_tail (y : FVec Ideal S36x3750 .f32) (n : Fin 33750) (j : Fin 4) :
    shapeCast S1x33750x4 (transpose S3750x9x4 [2, 0, 1] (shapeCast S9x4x3750 y shapeCasts_S36x3750_S9x4x3750) transposes_S9x4x3750_S3750x9x4_2_0_1) shapeCasts_S3750x9x4_S1x33750x4 (ix3 0 n j)
      = y (ix2 ⟨n.val % 9 * 4 + j.val, by omega⟩ ⟨n.val / 9, by omega⟩) := by
  pointwise

theorem cls_tail (y : FVec Ideal S18x3750 .f32) (n : Fin 33750) (j : Fin 2) :
    shapeCast S1x33750x2 (transpose S3750x9x2 [2, 0, 1] (shapeCast S9x2x3750 y shapeCasts_S18x3750_S9x2x3750) transposes_S9x2x3750_S3750x9x2_2_0_1) shapeCasts_S3750x9x2_S1x33750x2 (ix3 0 n j)
      = y (ix2 ⟨n.val % 9 * 2 + j.val, by omega⟩ ⟨n.val / 9, by omega⟩) := by
  pointwise

end Cert.KernelIdeal.Body

end
-- ==== Proof.Final.lean ====
/-
  What the launch leaves in the kernel's two result arrays, as functions of the arguments.
-/
module

public import proofs.«01_k».proof.Proof.Launch
public import proofs.«01_k».proof.Proof.Heads
public import Idealize.ShloMosaic.Lib.Claim
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

theorem idx : ∀ t : Fin cfg0.N, win0_0.index t = ![0, 0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- What the kernel is given, read off the memory the program starts from. -/
def insMem (c : Dev nD) : Ins Ideal :=
  insOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem in0 (c : Dev nD) (t : Fin cfg0.N) : iblk m c 0 t = (insMem m c).x0 := by
  have e : V m c main_v2 = (insMem m c).x0 := by entry_read; rfl
  rw [← e]; blk_ext! [iblk, idx t]
theorem in1 (c : Dev nD) (t : Fin cfg0.N) : iblk m c 1 t = (insMem m c).x1 := by
  have e : V m c main_v4 = (insMem m c).x1 := by entry_read; rfl
  rw [← e]; blk_ext! [iblk, idx t]
theorem in2 (c : Dev nD) (t : Fin cfg0.N) : iblk m c 2 t = (insMem m c).x2 := by
  have e : V m c main_v5 = (insMem m c).x2 := by entry_read; rfl
  rw [← e]; blk_ext! [iblk, idx t]
theorem in3 (c : Dev nD) (t : Fin cfg0.N) : iblk m c 3 t = (insMem m c).x3 := by
  have e : V m c main_v6 = (insMem m c).x3 := by entry_read; rfl
  rw [← e]; blk_ext! [iblk, idx t]
theorem in4 (c : Dev nD) (t : Fin cfg0.N) : iblk m c 4 t = (insMem m c).x4 := by
  have e : V m c main_v7 = (insMem m c).x4 := by entry_read; rfl
  rw [← e]; blk_ext! [iblk, idx t]
theorem in5 (c : Dev nD) (t : Fin cfg0.N) : iblk m c 5 t = (insMem m c).x5 := by
  have e : V m c main_v8 = (insMem m c).x5 := by entry_read; rfl
  rw [← e]; blk_ext! [iblk, idx t]
theorem in6 (c : Dev nD) (t : Fin cfg0.N) : iblk m c 6 t = (insMem m c).x6 := by
  have e : V m c main_v9 = (insMem m c).x6 := by entry_read; rfl
  rw [← e]; blk_ext! [iblk, idx t]

theorem insAt_eq (c : Dev nD) (t : Fin cfg0.N) : insAt m c t = insMem m c := by
  unfold insAt; rw [in0, in1, in2, in3, in4, in5, in6]

theorem final7 (c : Dev nD) : (dats m 0 c).arrAt 7 (cfgs 0).N = outReg (insMem m c) := by
  refine (dats m 0 c).arrAt_eq_of_after_last 7 t0_0 (by decide +kernel) _ fun j => ?_
  blk_simp
  rw [after0_7, insAt_eq]

theorem final8 (c : Dev nD) : (dats m 0 c).arrAt 8 (cfgs 0).N = outCls (insMem m c) := by
  refine (dats m 0 c).arrAt_eq_of_after_last 8 t0_0 (by decide +kernel) _ fun j => ?_
  blk_simp
  rw [after0_8, insAt_eq]

/-- The operations after the kernel, as a function of the array they read: the boxes. -/
theorem tail13 (v : Valuation τ sig (Elt Ideal)) :
    StableHlo.after (List.flatten [hostOps1 (F := Ideal)]) v (Proc.devRef .tc main_v13)
      = shapeCast S1x33750x4 (transpose S3750x9x4 [2, 0, 1] (shapeCast S9x4x3750 (v (Proc.devRef .tc main_v10_0)) shapeCasts_S36x3750_S9x4x3750) transposes_S9x4x3750_S3750x9x4_2_0_1) shapeCasts_S3750x9x4_S1x33750x4 := by
  simp only [hostOps1, List.flatten_cons, List.flatten_nil, List.append_nil]
  after_results
  try rfl

/-- The operations after the kernel, as a function of the array they read: the scores. -/
theorem tail16 (v : Valuation τ sig (Elt Ideal)) :
    StableHlo.after (List.flatten [hostOps1 (F := Ideal)]) v (Proc.devRef .tc main_v16)
      = shapeCast S1x33750x2 (transpose S3750x9x2 [2, 0, 1] (shapeCast S9x2x3750 (v (Proc.devRef .tc main_v10_1)) shapeCasts_S18x3750_S9x2x3750) transposes_S9x2x3750_S3750x9x2_2_0_1) shapeCasts_S3750x9x2_S1x33750x2 := by
  simp only [hostOps1, List.flatten_cons, List.flatten_nil, List.append_nil]
  after_results
  try rfl

/-- What the program returns as boxes, at an index. -/
theorem boxes_at (c : Dev nD) (n : Fin 33750) (j : Fin 4) :
    Pipeline.afterTail₀ cfgs (dats m) 0 (V0 m) [hostOps1] c main_v13 (ix3 0 n j)
      = regVal (m ((c : Thread nD τ).loc main_arg0)) (m ((c : Thread nD τ).loc main_arg1)) (m ((c : Thread nD τ).loc main_arg2))
          (m ((c : Thread nD τ).loc main_arg5)) (m ((c : Thread nD τ).loc main_arg6)) ⟨n.val % 9 * 4 + j.val, by omega⟩ ⟨n.val / 9, by omega⟩ := by
  unfold Pipeline.afterTail₀
  rw [tail13]
  have e : Pipeline.withArrays (cfgs 0).spec c (V0 m c) (fun w => (dats m 0 c).arrAt w (cfgs 0).N) (Proc.devRef .tc main_v10_0) = outReg (insMem m c) :=
    (Pipeline.withArrays_arr spec0 launch0.win.arr_inj c _ _ 7).trans (final7 m c)
  rw [e]
  rw [reg_tail]
  exact outReg_at _ _ _ _ _ _ _ _ _

/-- What the program returns as scores, at an index. -/
theorem scores_at (c : Dev nD) (n : Fin 33750) (j : Fin 2) :
    Pipeline.afterTail₀ cfgs (dats m) 0 (V0 m) [hostOps1] c main_v16 (ix3 0 n j)
      = clsVal (m ((c : Thread nD τ).loc main_arg0)) (m ((c : Thread nD τ).loc main_arg1)) (m ((c : Thread nD τ).loc main_arg2))
          (m ((c : Thread nD τ).loc main_arg3)) (m ((c : Thread nD τ).loc main_arg4)) ⟨n.val % 9 * 2 + j.val, by omega⟩ ⟨n.val / 9, by omega⟩ := by
  unfold Pipeline.afterTail₀
  rw [tail16]
  have e : Pipeline.withArrays (cfgs 0).spec c (V0 m c) (fun w => (dats m 0 c).arrAt w (cfgs 0).N) (Proc.devRef .tc main_v10_1) = outCls (insMem m c) :=
    (Pipeline.withArrays_arr spec0 launch0.win.arr_inj c _ _ 8).trans (final8 m c)
  rw [e]
  rw [cls_tail]
  exact outCls_at _ _ _ _ _ _ _ _ _

end Cert.KernelIdeal.Body

end
-- ==== Proof.Plain.lean ====
/-
  The plain program's results over the extended reals: its nine shifted products are the sum over the taps, and its two
  heads are the kernel's.
-/
module

public import proofs.«01_k».proof.Proof.Heads
public import proofs.«01_k».proof.Proof.Gen.ReferenceIdeal.Run
public import proofs.«01_k».proof.Proof.Gen.ReferenceIdeal.Read

@[expose] public section

set_option maxRecDepth 16384

noncomputable section

namespace Cert.ReferenceIdeal.Plain

open Cert.ReferenceIdeal Cert.ReferenceIdeal.Gen Cert.ReferenceIdeal.Read
open Idealize.ShloMosaic Idealize.ShloMosaic.TcCoe
open Cert.KernelIdeal.Body (px act regVal clsVal)

variable (X : FVec Ideal S1x512x50x75 .f32) (W : FVec Ideal S512x512x3x3 .f32) (b : FVec Ideal S512 .f32)
variable (wc : FVec Ideal S18x512x1x1 .f32) (bc : FVec Ideal S18 .f32) (wr : FVec Ideal S36x512x1x1 .f32) (br : FVec Ideal S36 .f32)

/-- The image with its border of zeros. -/
theorem pad_at (k : Fin 512) (y : Fin 52) (x : Fin 77) : val_main_v1 (F := Ideal) X (ix3 k y x) = px X k y.val x.val := by
  unfold px
  by_cases h : 1 ≤ y.val ∧ y.val - 1 < 50 ∧ 1 ≤ x.val ∧ x.val - 1 < 75
  · rw [dif_pos h]
    pointwise [val_main_v1, val_main_v0]
    rw [dif_pos (by omega)]
  · rw [dif_neg h]
    pointwise [val_main_v1, val_main_v0]
    rw [dif_neg (by omega)]
    pointwise [val_main_call0_v0, val_main_c]
    simp [FloatOps.sitofp]

/-- One tap: the product of one of the nine weight matrices with the image shifted. -/
theorem tap_at (u v : ℕ) (hu : u < 3) (hv : v < 3) (P : FVec Ideal S512x52x77 .f32) (hW : S512x512x3x3.Slices ![0, 0, u, v] S512x512x1x1)
    (hP : S512x52x77.Slices ![0, u, v] S512x50x75) (o : Fin 512) (y : Fin 50) (x : Fin 75) :
    Host.dotGeneral (F := Ideal) dot_S512x512_S512x50x75_S512x50x75_1_0_0_12_n_n none
        (shapeCast S512x512 (extractStridedSlice S512x512x1x1 ![0, 0, u, v] W hW) shapeCasts_S512x512x1x1_S512x512)
        (extractStridedSlice S512x50x75 ![0, u, v] P hP) (ix3 o y x)
      = ∑ k : Fin 512, W (ix4 o k ⟨u, hu⟩ ⟨v, hv⟩) * P (ix3 k ⟨u + y.val, by omega⟩ ⟨v + x.val, by omega⟩) := by
  pointwise

/-- The sum of one tap's products, the taps counted row after row. -/
def tapSum (P : FVec Ideal S512x52x77 .f32) (o : Fin 512) (y : Fin 50) (x : Fin 75) (t : Fin 9) : EReal :=
  ∑ k : Fin 512, W (ix4 o k ⟨t.val / 3, by omega⟩ ⟨t.val % 3, by omega⟩) * P (ix3 k ⟨t.val / 3 + y.val, by omega⟩ ⟨t.val % 3 + x.val, by omega⟩)

/-- The nine shifted products, added up one after the other from zero, are the sum over the taps. -/
theorem conv_at (o : Fin 512) (y : Fin 50) (x : Fin 75) :
    val_main_v47 (F := Ideal) X W (ix3 o y x) = ∑ t : Fin 9, tapSum W (val_main_v1 (F := Ideal) X) o y x t := by
  have z : val_main_v2 (F := Ideal) (ix3 o y x) = (0 : EReal) := by pointwise [val_main_v2, val_main_cst]
  have h0 : val_main_v6 (F := Ideal) X W (ix3 o y x) = tapSum W (val_main_v1 (F := Ideal) X) o y x 0 := tap_at W 0 0 (by omega) (by omega) (val_main_v1 (F := Ideal) X) _ _ o y x
  have h1 : val_main_v11 (F := Ideal) X W (ix3 o y x) = tapSum W (val_main_v1 (F := Ideal) X) o y x 1 := tap_at W 0 1 (by omega) (by omega) (val_main_v1 (F := Ideal) X) _ _ o y x
  have h2 : val_main_v16 (F := Ideal) X W (ix3 o y x) = tapSum W (val_main_v1 (F := Ideal) X) o y x 2 := tap_at W 0 2 (by omega) (by omega) (val_main_v1 (F := Ideal) X) _ _ o y x
  have h3 : val_main_v21 (F := Ideal) X W (ix3 o y x) = tapSum W (val_main_v1 (F := Ideal) X) o y x 3 := tap_at W 1 0 (by omega) (by omega) (val_main_v1 (F := Ideal) X) _ _ o y x
  have h4 : val_main_v26 (F := Ideal) X W (ix3 o y x) = tapSum W (val_main_v1 (F := Ideal) X) o y x 4 := tap_at W 1 1 (by omega) (by omega) (val_main_v1 (F := Ideal) X) _ _ o y x
  have h5 : val_main_v31 (F := Ideal) X W (ix3 o y x) = tapSum W (val_main_v1 (F := Ideal) X) o y x 5 := tap_at W 1 2 (by omega) (by omega) (val_main_v1 (F := Ideal) X) _ _ o y x
  have h6 : val_main_v36 (F := Ideal) X W (ix3 o y x) = tapSum W (val_main_v1 (F := Ideal) X) o y x 6 := tap_at W 2 0 (by omega) (by omega) (val_main_v1 (F := Ideal) X) _ _ o y x
  have h7 : val_main_v41 (F := Ideal) X W (ix3 o y x) = tapSum W (val_main_v1 (F := Ideal) X) o y x 7 := tap_at W 2 1 (by omega) (by omega) (val_main_v1 (F := Ideal) X) _ _ o y x
  have h8 : val_main_v46 (F := Ideal) X W (ix3 o y x) = tapSum W (val_main_v1 (F := Ideal) X) o y x 8 := tap_at W 2 2 (by omega) (by omega) (val_main_v1 (F := Ideal) X) _ _ o y x
  rw [Fin.sum_univ_castSucc, Fin.sum_univ_eight]
  show (((((((((val_main_v2 (F := Ideal) (ix3 o y x) + val_main_v6 (F := Ideal) X W (ix3 o y x)) + val_main_v11 (F := Ideal) X W (ix3 o y x)) + val_main_v16 (F := Ideal) X W (ix3 o y x)) + val_main_v21 (F := Ideal) X W (ix3 o y x)) + val_main_v26 (F := Ideal) X W (ix3 o y x)) + val_main_v31 (F := Ideal) X W (ix3 o y x)) + val_main_v36 (F := Ideal) X W (ix3 o y x)) + val_main_v41 (F := Ideal) X W (ix3 o y x)) + val_main_v46 (F := Ideal) X W (ix3 o y x)) = _
  rw [z, h0, h1, h2, h3, h4, h5, h6, h7, h8, zero_add]
  rfl

/-- The plain program's activations. -/
theorem act_at (o : Fin 512) (y : Fin 50) (x : Fin 75) : val_main_v51 (F := Ideal) X W b (ix3 o y x) = act X W b o y.val x.val := by
  have hp (t : Fin 9) : (∑ k : Fin 512, px X k (y.val + t.val / 3) (x.val + t.val % 3) * W (ix4 o k ⟨t.val / 3, by omega⟩ ⟨t.val % 3, by omega⟩) : EReal)
      = tapSum W (val_main_v1 (F := Ideal) X) o y x t :=
    Finset.sum_congr rfl fun k _ => by rw [pad_at, mul_comm]; dsimp only; rw [Nat.add_comm, Nat.add_comm x.val]
  unfold act
  rw [Finset.sum_congr rfl fun t _ => hp t, ← conv_at]
  pointwise [val_main_v51, val_main_call1_v0, val_main_call1_cst, val_main_v50, val_main_v49, val_main_v48]

/-- The plain program's boxes. -/
theorem reg_at (n : Fin 33750) (j : Fin 4) : val_main_v63 (F := Ideal) X W b wr br (ix3 0 n j)
    = regVal X W b wr br ⟨n.val % 9 * 4 + j.val, by omega⟩ ⟨n.val / 9, by omega⟩ := by
  unfold regVal
  pointwise [val_main_v63, val_main_v62, val_main_v56, val_main_v55, val_main_v54, val_main_v53, val_main_v52]
  simp only [act_at]
  rw [Nat.div_div_eq_div_mul]

/-- The plain program's scores. -/
theorem cls_at (n : Fin 33750) (j : Fin 2) : val_main_v65 (F := Ideal) X W b wc bc (ix3 0 n j)
    = clsVal X W b wc bc ⟨n.val % 9 * 2 + j.val, by omega⟩ ⟨n.val / 9, by omega⟩ := by
  unfold clsVal
  pointwise [val_main_v65, val_main_v64, val_main_v61, val_main_v60, val_main_v59, val_main_v58, val_main_v57]
  simp only [act_at]
  rw [Nat.div_div_eq_div_mul]

end Cert.ReferenceIdeal.Plain

end
-- ==== Proof.lean ====
/-
  The claims about the kernel and the plain program: the three frames, the idealization, and the equality of the boxes and
  of the scores over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Words.Launch
public import proofs.«01_k».proof.Proof.Launch
public import proofs.«01_k».proof.Proof.Final
public import proofs.«01_k».proof.Proof.Plain
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

set_option maxRecDepth 16384

/-- The plain program's frame: it has no semaphore, and its run leaves the arguments as they were. -/
theorem plain_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- An index of a result is a row and a column. -/
theorem row_col {N C : ℕ} (i : (Shape.mk 3 ![1, N, C]).Idx) : ∃ (n : Fin N) (j : Fin C), i = ix3 0 n j :=
  ⟨i 1, i 2, by
    funext a
    match a with
    | ⟨0, _⟩ => exact Subsingleton.elim (α := Fin 1) _ _
    | ⟨1, _⟩ => rfl
    | ⟨2, _⟩ => rfl⟩

/-- Over the extended reals the kernel and the plain program end with the same boxes and the same scores. -/
theorem same : Cert.algebraic_KernelIdeal_ReferenceIdeal := by
  pair_intro
  · run_from Cert.KernelIdeal.Body.run_main m g & Cert.KernelIdeal.Body.unchanged m g
  · run_from Cert.ReferenceIdeal.Value.run m' g'
    · rw [Cert.ReferenceIdeal.Read.val_main_v63_eq]
      funext i
      obtain ⟨n, j, rfl⟩ := row_col (N := 33750) (C := 4) i
      rw [(hagree c).1, (hagree c).2.1, (hagree c).2.2.1, (hagree c).2.2.2.2.2.1, (hagree c).2.2.2.2.2.2]
      exact (Cert.ReferenceIdeal.Plain.reg_at _ _ _ _ _ n j).trans (Cert.KernelIdeal.Body.boxes_at m c n j).symm
    · rw [Cert.ReferenceIdeal.Read.val_main_v65_eq]
      funext i
      obtain ⟨n, j, rfl⟩ := row_col (N := 33750) (C := 2) i
      rw [(hagree c).1, (hagree c).2.1, (hagree c).2.2.1, (hagree c).2.2.2.1, (hagree c).2.2.2.2.1]
      exact (Cert.ReferenceIdeal.Plain.cls_at _ _ _ _ _ n j).trans (Cert.KernelIdeal.Body.scores_at m c n j).symm

/-- All five claims. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, plain_frame, trivial, same⟩

end Cert.Proof

end
